-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 2048]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x512 : Shape := ⟨2, ![512, 512]⟩
abbrev S3x4x64x512 : Shape := ⟨4, ![3, 4, 64, 512]⟩
abbrev S4x64x512 : Shape := ⟨3, ![4, 64, 512]⟩
abbrev S3x4 : Shape := ⟨2, ![3, 4]⟩
abbrev S_ : Shape := ⟨0, ![]⟩
abbrev S64x512 : Shape := ⟨2, ![64, 512]⟩
abbrev S1x1x64x512 : Shape := ⟨4, ![1, 1, 64, 512]⟩
abbrev S1x1 : Shape := ⟨2, ![1, 1]⟩
abbrev S1x64x512 : Shape := ⟨3, ![1, 64, 512]⟩
abbrev S256x512 : Shape := ⟨2, ![256, 512]⟩
abbrev S1x4x64x512 : Shape := ⟨4, ![1, 4, 64, 512]⟩

abbrev nBuf : Space → Nat
  | .hbm => 4
  | .vmem => 13
  | .smem => 0
  | _ => 0

abbrev bufTy : (tb : Table) → Fin (tcTables nBuf tb) → BufTy
  | .hbm, ⟨0, _⟩ => ⟨S2048x512, .bf16⟩
  | .hbm, ⟨1, _⟩ => ⟨S512x512, .bf16⟩
  | .hbm, ⟨2, _⟩ => ⟨S512x512, .bf16⟩
  | .hbm, ⟨3, _⟩ => ⟨S2048x512, .f32⟩
  | .local _ .vmem, ⟨0, _⟩ => ⟨S2048x512, .bf16⟩
  | .local _ .vmem, ⟨1, _⟩ => ⟨S512x512, .bf16⟩
  | .local _ .vmem, ⟨2, _⟩ => ⟨S512x512, .bf16⟩
  | .local _ .vmem, ⟨3, _⟩ => ⟨S2048x512, .f32⟩
  | .local _ .vmem, ⟨4, _⟩ => ⟨S2048x512, .bf16⟩
  | .local _ .vmem, ⟨5, _⟩ => ⟨S3x4x64x512, .bf16⟩
  | .local _ .vmem, ⟨6, _⟩ => ⟨S3x4x64x512, .bf16⟩
  | .local _ .vmem, ⟨7, _⟩ => ⟨S3x4x64x512, .bf16⟩
  | .local _ .vmem, ⟨8, _⟩ => ⟨S3x4x64x512, .bf16⟩
  | .local _ .vmem, ⟨9, _⟩ => ⟨S3x4x64x512, .bf16⟩
  | .local _ .vmem, ⟨10, _⟩ => ⟨S3x4x64x512, .bf16⟩
  | .local _ .vmem, ⟨11, _⟩ => ⟨S4x64x512, .bf16⟩
  | .local _ .vmem, ⟨12, _⟩ => ⟨S4x64x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 100 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | _ => false

abbrev sig : RefSig :=
  (ofTc nBuf bufTy 1 100 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_12 : BitVec 32) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v15 : BitVec 32 := Scalar.addi v2 c8_i32
  let c1_i32_11 : BitVec 32 := 1#32
  let v16 : BitVec 32 := Scalar.subi v15 c1_i32_11
  let v17 : BitVec 32 := Scalar.subi v16 c0_i32_12
  let c4_i32_13 : BitVec 32 := 4#32
  let v18 : BitVec 32 := Scalar.remsi v17 c4_i32_13
  let c512_i32 : BitVec 32 := 512#32
  let v19 : BitVec 32 := Scalar.muli v18 c512_i32
  let v20 : BitVec 32 := Scalar.addi v19 c0_i32_14
  let v21 : Index := Scalar.indexCast v20
  let c0_15 : Index := 0#32
  ![v21.toNat, 0]
def k0_dev3 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_28 : BitVec 32 := 1#32
  let v29 : BitVec 32 := Scalar.muli v7 c1_i32_28
  let v30 : BitVec 32 := Scalar.addi c0_i32_29 v29
  v30.toNat
def k0_off2 (d0 : Dev nD) (c0_i32_35 : BitVec 32) (c0_i32_38 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v39 : BitVec 32 := Scalar.addi v2 c1_i32_34
  let v40 : BitVec 32 := Scalar.addi v39 c0_i32_35
  let c4_i32_36 : BitVec 32 := 4#32
  let v41 : BitVec 32 := Scalar.remsi v40 c4_i32_36
  let c512_i32_37 : BitVec 32 := 512#32
  let v42 : BitVec 32 := Scalar.muli v41 c512_i32_37
  let c256_i32 : BitVec 32 := 256#32
  let v43 : BitVec 32 := Scalar.addi v42 c256_i32
  let v44 : BitVec 32 := Scalar.addi v43 c0_i32_38
  let v45 : Index := Scalar.indexCast v44
  let c0_39 : Index := 0#32
  ![v45.toNat, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_53 : BitVec 32 := 1#32
  let v53 : BitVec 32 := Scalar.muli v5 c1_i32_53
  let v54 : BitVec 32 := Scalar.addi c0_i32_54 v53
  v54.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_77 : BitVec 32 := 1#32
  let v77 : BitVec 32 := Scalar.muli v7 c1_i32_77
  let v78 : BitVec 32 := Scalar.addi c0_i32_78 v77
  v78.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_103 : BitVec 32 := 1#32
  let v101 : BitVec 32 := Scalar.muli v5 c1_i32_103
  let v102 : BitVec 32 := Scalar.addi c0_i32_104 v101
  v102.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_127 : BitVec 32 := 1#32
  let v125 : BitVec 32 := Scalar.muli v7 c1_i32_127
  let v126 : BitVec 32 := Scalar.addi c0_i32_128 v125
  v126.toNat
def k0_dev8 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_153 : BitVec 32 := 1#32
  let v149 : BitVec 32 := Scalar.muli v5 c1_i32_153
  let v150 : BitVec 32 := Scalar.addi c0_i32_154 v149
  v150.toNat
def k0_dev9 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_176 : BitVec 32 := 1#32
  let v173 : BitVec 32 := Scalar.muli v7 c1_i32_176
  let v174 : BitVec 32 := Scalar.addi c0_i32_177 v173
  v174.toNat
def k0_dev10 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_202 : BitVec 32 := 1#32
  let v197 : BitVec 32 := Scalar.muli v5 c1_i32_202
  let v198 : BitVec 32 := Scalar.addi c0_i32_203 v197
  v198.toNat
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_250 : BitVec 32 := 1#32
  let v236 : BitVec 32 := Scalar.muli v7 c1_i32_250
  let v237 : BitVec 32 := Scalar.addi c0_i32_251 v236
  v237.toNat
def k0_dev12 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_293 : BitVec 32 := 1#32
  let v268 : BitVec 32 := Scalar.muli v5 c1_i32_293
  let v269 : BitVec 32 := Scalar.addi c0_i32_294 v268
  v269.toNat
def k0_dev13 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_336 : BitVec 32 := 1#32
  let v300 : BitVec 32 := Scalar.muli v7 c1_i32_336
  let v301 : BitVec 32 := Scalar.addi c0_i32_337 v300
  v301.toNat
def k0_dev14 (d0 : Dev nD) : Nat :=
  let c0_i32_380 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_379 : BitVec 32 := 1#32
  let v332 : BitVec 32 := Scalar.muli v5 c1_i32_379
  let v333 : BitVec 32 := Scalar.addi c0_i32_380 v332
  v333.toNat
def k0_dev15 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_422 : BitVec 32 := 1#32
  let v364 : BitVec 32 := Scalar.muli v7 c1_i32_422
  let v365 : BitVec 32 := Scalar.addi c0_i32_423 v364
  v365.toNat
def k0_dev16 (d0 : Dev nD) : Nat :=
  let c0_i32_466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_465 : BitVec 32 := 1#32
  let v396 : BitVec 32 := Scalar.muli v5 c1_i32_465
  let v397 : BitVec 32 := Scalar.addi c0_i32_466 v396
  v397.toNat
def k0_dev17 (d0 : Dev nD) : Nat :=
  let c0_i32_509 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_508 : BitVec 32 := 1#32
  let v428 : BitVec 32 := Scalar.muli v7 c1_i32_508
  let v429 : BitVec 32 := Scalar.addi c0_i32_509 v428
  v429.toNat
def k0_dev18 (d0 : Dev nD) : Nat :=
  let c0_i32_552 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_551 : BitVec 32 := 1#32
  let v460 : BitVec 32 := Scalar.muli v5 c1_i32_551
  let v461 : BitVec 32 := Scalar.addi c0_i32_552 v460
  v461.toNat
def k0_dev19 (d0 : Dev nD) : Nat :=
  let c0_i32_595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_594 : BitVec 32 := 1#32
  let v492 : BitVec 32 := Scalar.muli v7 c1_i32_594
  let v493 : BitVec 32 := Scalar.addi c0_i32_595 v492
  v493.toNat
def k0_dev20 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_637 : BitVec 32 := 1#32
  let v524 : BitVec 32 := Scalar.muli v5 c1_i32_637
  let v525 : BitVec 32 := Scalar.addi c0_i32_638 v524
  v525.toNat
def k0_dev21 (d0 : Dev nD) : Nat :=
  let c0_i32_681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_680 : BitVec 32 := 1#32
  let v556 : BitVec 32 := Scalar.muli v7 c1_i32_680
  let v557 : BitVec 32 := Scalar.addi c0_i32_681 v556
  v557.toNat
def k0_dev22 (d0 : Dev nD) : Nat :=
  let c0_i32_724 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_723 : BitVec 32 := 1#32
  let v588 : BitVec 32 := Scalar.muli v5 c1_i32_723
  let v589 : BitVec 32 := Scalar.addi c0_i32_724 v588
  v589.toNat
def k0_dev23 (d0 : Dev nD) : Nat :=
  let c0_i32_767 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_766 : BitVec 32 := 1#32
  let v620 : BitVec 32 := Scalar.muli v7 c1_i32_766
  let v621 : BitVec 32 := Scalar.addi c0_i32_767 v620
  v621.toNat
def k0_dev24 (d0 : Dev nD) : Nat :=
  let c0_i32_810 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_809 : BitVec 32 := 1#32
  let v652 : BitVec 32 := Scalar.muli v5 c1_i32_809
  let v653 : BitVec 32 := Scalar.addi c0_i32_810 v652
  v653.toNat
def k0_dev25 (d0 : Dev nD) : Nat :=
  let c0_i32_853 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_852 : BitVec 32 := 1#32
  let v684 : BitVec 32 := Scalar.muli v7 c1_i32_852
  let v685 : BitVec 32 := Scalar.addi c0_i32_853 v684
  v685.toNat
def k0_dev26 (d0 : Dev nD) : Nat :=
  let c0_i32_896 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_895 : BitVec 32 := 1#32
  let v716 : BitVec 32 := Scalar.muli v5 c1_i32_895
  let v717 : BitVec 32 := Scalar.addi c0_i32_896 v716
  v717.toNat
def k0_off3 (d0 : Dev nD) (c0_i32_916 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_915 : BitVec 32 := 512#32
  let v734 : BitVec 32 := Scalar.muli v2 c512_i32_915
  let v735 : BitVec 32 := Scalar.addi v734 c0_i32_916
  let v736 : Index := Scalar.indexCast v735
  let c0_917 : Index := 0#32
  ![v736.toNat, 0]
def k0_dev27 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_932 : BitVec 32 := 1#32
  let v744 : BitVec 32 := Scalar.muli v7 c1_i32_932
  let v745 : BitVec 32 := Scalar.addi c0_i32_933 v744
  v745.toNat
def k0_off4 (d0 : Dev nD) (c0_i32_954 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_952 : BitVec 32 := 512#32
  let v762 : BitVec 32 := Scalar.muli v2 c512_i32_952
  let c256_i32_953 : BitVec 32 := 256#32
  let v763 : BitVec 32 := Scalar.addi v762 c256_i32_953
  let v764 : BitVec 32 := Scalar.addi v763 c0_i32_954
  let v765 : Index := Scalar.indexCast v764
  let c0_955 : Index := 0#32
  ![v765.toNat, 0]
def k0_dev28 (d0 : Dev nD) : Nat :=
  let c0_i32_971 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_970 : BitVec 32 := 1#32
  let v773 : BitVec 32 := Scalar.muli v5 c1_i32_970
  let v774 : BitVec 32 := Scalar.addi c0_i32_971 v773
  v774.toNat
def k0_dev29 (d0 : Dev nD) : Nat :=
  let c0_i32_1008 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1007 : BitVec 32 := 1#32
  let v801 : BitVec 32 := Scalar.muli v7 c1_i32_1007
  let v802 : BitVec 32 := Scalar.addi c0_i32_1008 v801
  v802.toNat
def k0_dev30 (d0 : Dev nD) : Nat :=
  let c0_i32_1046 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1045 : BitVec 32 := 1#32
  let v830 : BitVec 32 := Scalar.muli v5 c1_i32_1045
  let v831 : BitVec 32 := Scalar.addi c0_i32_1046 v830
  v831.toNat
def k0_dev31 (d0 : Dev nD) : Nat :=
  let c0_i32_1083 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1082 : BitVec 32 := 1#32
  let v858 : BitVec 32 := Scalar.muli v7 c1_i32_1082
  let v859 : BitVec 32 := Scalar.addi c0_i32_1083 v858
  v859.toNat
def k0_dev32 (d0 : Dev nD) : Nat :=
  let c0_i32_1121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1120 : BitVec 32 := 1#32
  let v887 : BitVec 32 := Scalar.muli v5 c1_i32_1120
  let v888 : BitVec 32 := Scalar.addi c0_i32_1121 v887
  v888.toNat
def k0_dev33 (d0 : Dev nD) : Nat :=
  let c0_i32_1158 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1157 : BitVec 32 := 1#32
  let v915 : BitVec 32 := Scalar.muli v7 c1_i32_1157
  let v916 : BitVec 32 := Scalar.addi c0_i32_1158 v915
  v916.toNat
def k0_dev34 (d0 : Dev nD) : Nat :=
  let c0_i32_1196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1195 : BitVec 32 := 1#32
  let v944 : BitVec 32 := Scalar.muli v5 c1_i32_1195
  let v945 : BitVec 32 := Scalar.addi c0_i32_1196 v944
  v945.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1207 : BitVec 32 := 512#32
  let v959 : BitVec 32 := Scalar.muli v2 c512_i32_1207
  let v960 : Index := Scalar.indexCast v959
  let c0_1208 : Index := 0#32
  ![v960.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_1213 : BitVec 32 := 512#32
  let v965 : BitVec 32 := Scalar.muli v2 c512_i32_1213
  let c256_i32_1214 : BitVec 32 := 256#32
  let v966 : BitVec 32 := Scalar.addi v965 c256_i32_1214
  let v967 : Index := Scalar.indexCast v966
  let c0_1215 : Index := 0#32
  ![v967.toNat, 0]
def k0_dev35 (d0 : Dev nD) : Nat :=
  let c0_i32_1251 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1250 : BitVec 32 := 1#32
  let v985 : BitVec 32 := Scalar.muli v7 c1_i32_1250
  let v986 : BitVec 32 := Scalar.addi c0_i32_1251 v985
  v986.toNat
def k0_dev36 (d0 : Dev nD) : Nat :=
  let c0_i32_1265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1264 : BitVec 32 := 1#32
  let v995 : BitVec 32 := Scalar.muli v5 c1_i32_1264
  let v996 : BitVec 32 := Scalar.addi c0_i32_1265 v995
  v996.toNat
def k0_dev37 (d0 : Dev nD) : Nat :=
  let c0_i32_1305 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1304 : BitVec 32 := 1#32
  let v1021 : BitVec 32 := Scalar.muli v7 c1_i32_1304
  let v1022 : BitVec 32 := Scalar.addi c0_i32_1305 v1021
  v1022.toNat
def k0_dev38 (d0 : Dev nD) : Nat :=
  let c0_i32_1319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1318 : BitVec 32 := 1#32
  let v1031 : BitVec 32 := Scalar.muli v5 c1_i32_1318
  let v1032 : BitVec 32 := Scalar.addi c0_i32_1319 v1031
  v1032.toNat
def k0_dev39 (d0 : Dev nD) : Nat :=
  let c0_i32_1359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1358 : BitVec 32 := 1#32
  let v1057 : BitVec 32 := Scalar.muli v7 c1_i32_1358
  let v1058 : BitVec 32 := Scalar.addi c0_i32_1359 v1057
  v1058.toNat
def k0_dev40 (d0 : Dev nD) : Nat :=
  let c0_i32_1373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1372 : BitVec 32 := 1#32
  let v1067 : BitVec 32 := Scalar.muli v5 c1_i32_1372
  let v1068 : BitVec 32 := Scalar.addi c0_i32_1373 v1067
  v1068.toNat
def k0_dev41 (d0 : Dev nD) : Nat :=
  let c0_i32_1413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1412 : BitVec 32 := 1#32
  let v1093 : BitVec 32 := Scalar.muli v7 c1_i32_1412
  let v1094 : BitVec 32 := Scalar.addi c0_i32_1413 v1093
  v1094.toNat
def k0_dev42 (d0 : Dev nD) : Nat :=
  let c0_i32_1427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1426 : BitVec 32 := 1#32
  let v1103 : BitVec 32 := Scalar.muli v5 c1_i32_1426
  let v1104 : BitVec 32 := Scalar.addi c0_i32_1427 v1103
  v1104.toNat
def k0_off7 (d0 : Dev nD) (c0_i32_1439 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_1437 : BitVec 32 := 8#32
  let v1117 : BitVec 32 := Scalar.addi v2 c8_i32_1437
  let c1_i32_1438 : BitVec 32 := 1#32
  let v1118 : BitVec 32 := Scalar.subi v1117 c1_i32_1438
  let v1119 : BitVec 32 := Scalar.subi v1118 c0_i32_1439
  let c4_i32_1440 : BitVec 32 := 4#32
  let v1120 : BitVec 32 := Scalar.remsi v1119 c4_i32_1440
  let c512_i32_1441 : BitVec 32 := 512#32
  let v1121 : BitVec 32 := Scalar.muli v1120 c512_i32_1441
  let v1122 : Index := Scalar.indexCast v1121
  let c0_1442 : Index := 0#32
  ![v1122.toNat, 0]
def k0_off8 (d0 : Dev nD) (c0_i32_1449 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1448 : BitVec 32 := 1#32
  let v1128 : BitVec 32 := Scalar.addi v2 c1_i32_1448
  let v1129 : BitVec 32 := Scalar.addi v1128 c0_i32_1449
  let c4_i32_1450 : BitVec 32 := 4#32
  let v1130 : BitVec 32 := Scalar.remsi v1129 c4_i32_1450
  let c512_i32_1451 : BitVec 32 := 512#32
  let v1131 : BitVec 32 := Scalar.muli v1130 c512_i32_1451
  let c256_i32_1452 : BitVec 32 := 256#32
  let v1132 : BitVec 32 := Scalar.addi v1131 c256_i32_1452
  let v1133 : Index := Scalar.indexCast v1132
  let c0_1453 : Index := 0#32
  ![v1133.toNat, 0]
def k0_dev43 (d0 : Dev nD) : Nat :=
  let c0_i32_1491 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1490 : BitVec 32 := 1#32
  let v1151 : BitVec 32 := Scalar.muli v7 c1_i32_1490
  let v1152 : BitVec 32 := Scalar.addi c0_i32_1491 v1151
  v1152.toNat
def k0_dev44 (d0 : Dev nD) : Nat :=
  let c0_i32_1505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1504 : BitVec 32 := 1#32
  let v1161 : BitVec 32 := Scalar.muli v5 c1_i32_1504
  let v1162 : BitVec 32 := Scalar.addi c0_i32_1505 v1161
  v1162.toNat
def k0_dev45 (d0 : Dev nD) : Nat :=
  let c0_i32_1547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1546 : BitVec 32 := 1#32
  let v1187 : BitVec 32 := Scalar.muli v7 c1_i32_1546
  let v1188 : BitVec 32 := Scalar.addi c0_i32_1547 v1187
  v1188.toNat
def k0_dev46 (d0 : Dev nD) : Nat :=
  let c0_i32_1561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1560 : BitVec 32 := 1#32
  let v1197 : BitVec 32 := Scalar.muli v5 c1_i32_1560
  let v1198 : BitVec 32 := Scalar.addi c0_i32_1561 v1197
  v1198.toNat
def k0_dev47 (d0 : Dev nD) : Nat :=
  let c0_i32_1603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1602 : BitVec 32 := 1#32
  let v1223 : BitVec 32 := Scalar.muli v7 c1_i32_1602
  let v1224 : BitVec 32 := Scalar.addi c0_i32_1603 v1223
  v1224.toNat
def k0_dev48 (d0 : Dev nD) : Nat :=
  let c0_i32_1617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1616 : BitVec 32 := 1#32
  let v1233 : BitVec 32 := Scalar.muli v5 c1_i32_1616
  let v1234 : BitVec 32 := Scalar.addi c0_i32_1617 v1233
  v1234.toNat
def k0_dev49 (d0 : Dev nD) : Nat :=
  let c0_i32_1659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1658 : BitVec 32 := 1#32
  let v1259 : BitVec 32 := Scalar.muli v7 c1_i32_1658
  let v1260 : BitVec 32 := Scalar.addi c0_i32_1659 v1259
  v1260.toNat
def k0_dev50 (d0 : Dev nD) : Nat :=
  let c0_i32_1673 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1672 : BitVec 32 := 1#32
  let v1269 : BitVec 32 := Scalar.muli v5 c1_i32_1672
  let v1270 : BitVec 32 := Scalar.addi c0_i32_1673 v1269
  v1270.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x512, .bf16⟩
  | .hbm, ⟨2, _⟩ => ⟨S512x2048, .bf16⟩
  | .hbm, ⟨3, _⟩ => ⟨S2048x512, .f32⟩
  | .hbm, ⟨4, _⟩ => ⟨S2048x512, .bf16⟩
  | .hbm, ⟨5, _⟩ => ⟨S2048x2048, .f32⟩
  | .hbm, ⟨6, _⟩ => ⟨S2048x2048, .bf16⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Hops.lean ====
/- The kernel's body, told once per hop.

   The body is 48 links between neighbours — six rows of four sub-blocks in two directions — and what comes between
   them.  A link `ℓ = (r, j, d)` is row `r`, sub-block `j`, direction `d` (`0` to the next device, `1` to the previous
   one).  Rows 0–2 reduce, rows 3–5 gather.  Here each link gets its source, its destination, its two semaphores and its
   instructions as a function of `ℓ`, and the printed body is shown to be the sequence of those. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame

@[expose] public noncomputable section

namespace Cert.KernelIdeal.Ring

open Idealize.ShloMosaic Idealize.SL.Sem Cert.KernelIdeal Cert.KernelIdeal.Gen

variable {F : FTy → Type} [FloatOps F]

/-- A link: its row, its sub-block, its direction. -/
abbrev Link : Type := Fin 6 × Fin 4 × Fin 2

/-- The place of a link in the order the links are started and received in. -/
def ix (ℓ : Link) : ℕ := 8 * ℓ.1.val + 2 * ℓ.2.1.val + ℓ.2.2.val

/-! ## Buffers -/

abbrev xM : Memref sig .tc .vmem S2048x512 .bf16 := Memref.whole cc0_stg0_0
abbrev w1M : Memref sig .tc .vmem S512x512 .bf16 := Memref.whole cc0_stg1_0
abbrev w2M : Memref sig .tc .vmem S512x512 .bf16 := Memref.whole cc0_stg2_0
abbrev outM : Memref sig .tc .vmem S2048x512 .f32 := Memref.whole cc0_stg3_0
abbrev hM : Memref sig .tc .vmem S2048x512 .bf16 := Memref.whole cc0_scratch0

/-- What the reduction sends from, what it receives into, what the gathering receives into: one buffer per direction. -/
def rsSend (d : Fin 2) : Memref sig .tc .vmem S3x4x64x512 .bf16 :=
  match d with
  | 0 => Memref.whole cc0_scratch1
  | 1 => Memref.whole cc0_scratch3
def rsRecv (d : Fin 2) : Memref sig .tc .vmem S3x4x64x512 .bf16 :=
  match d with
  | 0 => Memref.whole cc0_scratch2
  | 1 => Memref.whole cc0_scratch4
def agRecv (d : Fin 2) : Memref sig .tc .vmem S3x4x64x512 .bf16 :=
  match d with
  | 0 => Memref.whole cc0_scratch5
  | 1 => Memref.whole cc0_scratch6
/-- The device's own finished rows. -/
def accM (d : Fin 2) : Memref sig .tc .vmem S4x64x512 .bf16 :=
  match d with
  | 0 => Memref.whole cc0_scratch7
  | 1 => Memref.whole cc0_scratch8

theorem rsSend_whole (d : Fin 2) : (rsSend d).IsWhole := by fin_cases d <;> exact Memref.isWhole_whole _
theorem rsRecv_whole (d : Fin 2) : (rsRecv d).IsWhole := by fin_cases d <;> exact Memref.isWhole_whole _
theorem agRecv_whole (d : Fin 2) : (agRecv d).IsWhole := by fin_cases d <;> exact Memref.isWhole_whole _
theorem accM_whole (d : Fin 2) : (accM d).IsWhole := by fin_cases d <;> exact Memref.isWhole_whole _

/-! ## Slots -/

theorem inb4 (s : Fin 3) (j : Fin 4) :
    ∀ a, (![s.val, j.val, 0, 0] : Fin 4 → Nat) a + S1x1x64x512.size a ≤ S3x4x64x512.size a := by
  revert s j; decide
theorem inb3 (j : Fin 4) : ∀ a, (![j.val, 0, 0] : Fin 3 → Nat) a + S1x64x512.size a ≤ S4x64x512.size a := by
  revert j; decide
theorem inbSem (s : Fin 3) (j : Fin 4) : ∀ a, (![s.val, j.val] : Fin 2 → Nat) a + S1x1.size a ≤ S3x4.size a := by
  revert s j; decide

/-- Slot `(s, j)` of a three-by-four buffer, as a rectangle of it. -/
abbrev rect4 (s : Fin 3) (j : Fin 4) : Rect S3x4x64x512 :=
  Rect.unit (s := S3x4x64x512) ![s.val, j.val, 0, 0] S1x1x64x512.size (inb4 s j)
/-- Slot `j` of a buffer of four. -/
abbrev rect3 (j : Fin 4) : Rect S4x64x512 := Rect.unit (s := S4x64x512) ![j.val, 0, 0] S1x64x512.size (inb3 j)

theorem packed4 (s : Fin 3) (j : Fin 4) : (rect4 s j).PackedRows (EltTy.packing .bf16) := by revert s j; decide
theorem words4 (s : Fin 3) (j : Fin 4) : (rect4 s j).WholeWords (EltTy.packing .bf16) := by revert s j; decide
theorem packed3 (j : Fin 4) : (rect3 j).PackedRows (EltTy.packing .bf16) := by revert j; decide
theorem words3 (j : Fin 4) : (rect3 j).WholeWords (EltTy.packing .bf16) := by revert j; decide

/-- Slot `(s, j)` as the sixty-four rows it is. -/
abbrev slot4 (m : Memref sig .tc .vmem S3x4x64x512 .bf16) (s : Fin 3) (j : Fin 4) : Memref sig .tc .vmem S64x512 .bf16 :=
  (m.slice (rect4 s j) (fun _ => rfl)).squeeze S64x512 squeezes_S1x1x64x512_S64x512
abbrev slot3 (m : Memref sig .tc .vmem S4x64x512 .bf16) (j : Fin 4) : Memref sig .tc .vmem S64x512 .bf16 :=
  (m.slice (rect3 j) (fun _ => rfl)).squeeze S64x512 squeezes_S1x64x512_S64x512

/-- Where a link reads on the sender. -/
def srcM (ℓ : Link) : Memref sig .tc .vmem S64x512 .bf16 :=
  if h : ℓ.1.val < 3 then slot4 (rsSend ℓ.2.2) ⟨ℓ.1.val, h⟩ ℓ.2.1
  else if ℓ.1.val = 3 then slot3 (accM ℓ.2.2) ℓ.2.1
  else slot4 (agRecv ℓ.2.2) ⟨ℓ.1.val - 4, by omega⟩ ℓ.2.1

/-- Where a link writes on the receiver. -/
def dstM (ℓ : Link) : Memref sig .tc .vmem S64x512 .bf16 :=
  if h : ℓ.1.val < 3 then slot4 (rsRecv ℓ.2.2) ⟨ℓ.1.val, h⟩ ℓ.2.1
  else slot4 (agRecv ℓ.2.2) ⟨ℓ.1.val - 3, by omega⟩ ℓ.2.1

theorem slot4_words {m : Memref sig .tc .vmem S3x4x64x512 .bf16} (h : m.IsWhole) (s : Fin 3) (j : Fin 4) :
    (slot4 m s j).view.WordExact :=
  (h.wordExact_slice rfl _ (words4 s j)).reshape _ _
theorem slot3_words {m : Memref sig .tc .vmem S4x64x512 .bf16} (h : m.IsWhole) (j : Fin 4) : (slot3 m j).view.WordExact :=
  (h.wordExact_slice rfl _ (words3 j)).reshape _ _

theorem srcM_words (ℓ : Link) : (srcM ℓ).view.WordExact := by
  unfold srcM; split_ifs
  · exact slot4_words (rsSend_whole _) _ _
  · exact slot3_words (accM_whole _) _
  · exact slot4_words (agRecv_whole _) _ _
theorem dstM_words (ℓ : Link) : (dstM ℓ).view.WordExact := by
  unfold dstM; split_ifs
  · exact slot4_words (rsRecv_whole _) _ _
  · exact slot4_words (agRecv_whole _) _ _

/-! ## Semaphores -/

/-- The semaphores counting departures and arrivals, in an array per half of the body and direction. -/
def sendSems (ag : Bool) (d : Fin 2) : DmaSems sig S3x4 :=
  match ag, d with
  | false, 0 => cc0_scratch9
  | false, 1 => cc0_scratch11
  | true, 0 => cc0_scratch13
  | true, 1 => cc0_scratch15
def recvSems (ag : Bool) (d : Fin 2) : DmaSems sig S3x4 :=
  match ag, d with
  | false, 0 => cc0_scratch10
  | false, 1 => cc0_scratch12
  | true, 0 => cc0_scratch14
  | true, 1 => cc0_scratch16

abbrev oneSem (a : DmaSems sig S3x4) (s : Fin 3) (j : Fin 4) : DmaSem sig :=
  ((a.slice (Rect.unit (s := S3x4) ![s.val, j.val] S1x1.size (inbSem s j))).squeeze S_ squeezes_S1x1_S_).sem

def ssem (ℓ : Link) : DmaSem sig :=
  if h : ℓ.1.val < 3 then oneSem (sendSems false ℓ.2.2) ⟨ℓ.1.val, h⟩ ℓ.2.1
  else oneSem (sendSems true ℓ.2.2) ⟨ℓ.1.val - 3, by omega⟩ ℓ.2.1
def rsem (ℓ : Link) : DmaSem sig :=
  if h : ℓ.1.val < 3 then oneSem (recvSems false ℓ.2.2) ⟨ℓ.1.val, h⟩ ℓ.2.1
  else oneSem (recvSems true ℓ.2.2) ⟨ℓ.1.val - 3, by omega⟩ ℓ.2.1

/-! ## Neighbours and rows -/

/-- The device a link goes to. -/
def toward (c : Dev nD) (d : Fin 2) : Dev nD :=
  match d with
  | 0 => ⟨k0_dev3 c, k0_dev3_lt c⟩
  | 1 => ⟨k0_dev4 c, k0_dev4_lt c⟩

/-- The first row of the sixty-four the device contributes to a link of rows 0–2, -/
def rowOff (c : Dev nD) (s : Fin 3) (j : Fin 4) (d : Fin 2) : Fin 2 → Nat :=
  match d with
  | 0 => k0_off1 c (BitVec.ofNat 32 s.val) (BitVec.ofNat 32 (64 * j.val))
  | 1 => k0_off2 c (BitVec.ofNat 32 s.val) (BitVec.ofNat 32 (64 * j.val))
theorem rowOff_inb (c : Dev nD) (s : Fin 3) (j : Fin 4) (d : Fin 2) :
    ∀ a, rowOff c s j d a + S64x512.size a ≤ S2048x512.size a := by
  fin_cases d
  · exact k0_off1_inb c s j
  · exact k0_off2_inb c s j
/-- and those it contributes to its own finished rows. -/
def ownOff (c : Dev nD) (j : Fin 4) (d : Fin 2) : Fin 2 → Nat :=
  match d with
  | 0 => k0_off3 c (BitVec.ofNat 32 (64 * j.val))
  | 1 => k0_off4 c (BitVec.ofNat 32 (64 * j.val))
theorem ownOff_inb (c : Dev nD) (j : Fin 4) (d : Fin 2) :
    ∀ a, ownOff c j d a + S64x512.size a ≤ S2048x512.size a := by
  fin_cases d
  · exact k0_off3_inb c j
  · exact k0_off4_inb c j

abbrev rowRect (c : Dev nD) (s : Fin 3) (j : Fin 4) (d : Fin 2) : Rect S2048x512 :=
  Rect.unit (s := S2048x512) (rowOff c s j d) S64x512.size (rowOff_inb c s j d)
abbrev ownRect (c : Dev nD) (j : Fin 4) (d : Fin 2) : Rect S2048x512 :=
  Rect.unit (s := S2048x512) (ownOff c j d) S64x512.size (ownOff_inb c j d)

/-- The first row of the 256 a finished block fills: the device's own, and those gathered in row `t`. -/
def outOwn (c : Dev nD) (d : Fin 2) : Fin 2 → Nat :=
  match d with
  | 0 => k0_off5 c
  | 1 => k0_off6 c
theorem outOwn_inb (c : Dev nD) (d : Fin 2) : ∀ a, outOwn c d a + S256x512.size a ≤ S2048x512.size a := by
  fin_cases d
  · exact k0_off5_inb c
  · exact k0_off6_inb c
def outOff (c : Dev nD) (t : Fin 3) (d : Fin 2) : Fin 2 → Nat :=
  match d with
  | 0 => k0_off7 c (BitVec.ofNat 32 t.val)
  | 1 => k0_off8 c (BitVec.ofNat 32 t.val)
theorem outOff_inb (c : Dev nD) (t : Fin 3) (d : Fin 2) : ∀ a, outOff c t d a + S256x512.size a ≤ S2048x512.size a := by
  fin_cases d
  · exact k0_off7_inb c t
  · exact k0_off8_inb c t
abbrev outOwnRect (c : Dev nD) (d : Fin 2) : Rect S2048x512 :=
  Rect.unit (s := S2048x512) (outOwn c d) S256x512.size (outOwn_inb c d)
abbrev outRect (c : Dev nD) (t : Fin 3) (d : Fin 2) : Rect S2048x512 :=
  Rect.unit (s := S2048x512) (outOff c t d) S256x512.size (outOff_inb c t d)

theorem inbRow (t : Fin 3) : ∀ a, (![t.val, 0, 0, 0] : Fin 4 → Nat) a + S1x4x64x512.size a ≤ S3x4x64x512.size a := by
  revert t; decide
/-- A whole row of four slots. -/
abbrev quadRect (t : Fin 3) : Rect S3x4x64x512 := Rect.unit (s := S3x4x64x512) ![t.val, 0, 0, 0] S1x4x64x512.size (inbRow t)

/-! ## Instructions -/

abbrev P (F : FTy → Type) [FloatOps F] (α : Type) : Type 1 := Prog (TpuEff nD τ sig (Elt F) Λ₀ .tc) α

/-- Start a link. -/
def sendL (c : Dev nD) (ℓ : Link) : P F PUnit :=
  Prog.lift (.enqueueDma (srcM ℓ) (.remote (Dev.tc (toward c ℓ.2.2)) (dstM ℓ) (.dma (ssem ℓ))) (.dma (rsem ℓ))
    (srcM_words ℓ) (dstM_words ℓ) ⟨⟨rfl, Or.inl rfl⟩, trivial⟩)
/-- Wait for a link's arrival, -/
def recvL (ℓ : Link) : P F PUnit :=
  Prog.lift (.waitDma2 (rsem ℓ) (srcM ℓ) (dstM ℓ) (srcM_words ℓ) (dstM_words ℓ))
/-- and for its departure. -/
def doneL (ℓ : Link) : P F PUnit :=
  Prog.lift (.waitDma2 (ssem ℓ) (dstM ℓ) (srcM ℓ) (dstM_words ℓ) (srcM_words ℓ))

def load4 (m : Memref sig .tc .vmem S3x4x64x512 .bf16) (s : Fin 3) (j : Fin 4) : P F (Vec F S1x1x64x512 .bf16) :=
  Prog.lift (.load m (rect4 s j).toLoadRect (View.loadsAt_vmem h_S1x1x64x512))
def load3 (m : Memref sig .tc .vmem S4x64x512 .bf16) (j : Fin 4) : P F (Vec F S1x64x512 .bf16) :=
  Prog.lift (.load m (rect3 j).toLoadRect (View.loadsAt_vmem h_S1x64x512))
def store4 (m : Memref sig .tc .vmem S3x4x64x512 .bf16) (hm : m.IsWhole) (s : Fin 3) (j : Fin 4)
    (v : Vec F S1x1x64x512 .bf16) : P F PUnit :=
  Prog.lift (.store m (rect4 s j) v Finset.univ
    (View.stores_vmem h_S1x1x64x512 (hm.storeExact_slice rfl _ (packed4 s j)) (fun _ => rfl)) (.inl rfl))
def store3 (m : Memref sig .tc .vmem S4x64x512 .bf16) (hm : m.IsWhole) (j : Fin 4)
    (v : Vec F S1x64x512 .bf16) : P F PUnit :=
  Prog.lift (.store m (rect3 j) v Finset.univ
    (View.stores_vmem h_S1x64x512 (hm.storeExact_slice rfl _ (packed3 j)) (fun _ => rfl)) (.inl rfl))

/-! ## Hops -/

/-- A link of row 0: a block of the product, sent on. -/
def firstHop (c : Dev nD) (w1 : FVec F S512x512 .bf16) (j : Fin 4) (d : Fin 2) : P F PUnit := do
  let v ← Prog.lift (.load xM (rowRect c 0 j d).toLoadRect (View.loadsAt_vmem h_S64x512))
  let _ ← load4 (rsSend d) 0 j
  store4 (rsSend d) (rsSend_whole d) 0 j (k0_pay4 w1 v)
  sendL c (0, j, d)

/-- The link of row `s + 1`, `s < 2`: what arrived, with the device's own rows added, sent on. -/
def midHop (c : Dev nD) (s : Fin 2) (j : Fin 4) (d : Fin 2) : P F PUnit := do
  recvL (⟨s.val, by omega⟩, j, d)
  let v ← Prog.lift (.load hM (rowRect c ⟨s.val + 1, by omega⟩ j d).toLoadRect (View.loadsAt_vmem h_S64x512))
  let u ← load4 (rsRecv d) ⟨s.val, by omega⟩ j
  let _ ← load4 (rsSend d) ⟨s.val + 1, by omega⟩ j
  store4 (rsSend d) (rsSend_whole d) ⟨s.val + 1, by omega⟩ j (k0_pay13 v u)
  sendL c (⟨s.val + 1, by omega⟩, j, d)

/-- A link of row 3: the device's own rows finished, and sent on. -/
def accHop (c : Dev nD) (j : Fin 4) (d : Fin 2) : P F PUnit := do
  recvL (2, j, d)
  let v ← Prog.lift (.load hM (ownRect c j d).toLoadRect (View.loadsAt_vmem h_S64x512))
  let u ← load4 (rsRecv d) 2 j
  let _ ← load3 (accM d) j
  store3 (accM d) (accM_whole d) j (k0_pay32 v u)
  sendL c (3, j, d)

/-- The device's own 256 rows of the result. -/
def ownOut (c : Dev nD) (w2 : FVec F S512x512 .bf16) (d : Fin 2) : P F PUnit := do
  let v ← Prog.lift (.load (accM d) (Rect.unit (s := S4x64x512) ![0, 0, 0] S4x64x512.size inb_S4x64x512_S4x64x512_0_0_0).toLoadRect
    (View.loadsAt_vmem h_S4x64x512))
  let _ ← Prog.lift (.load outM (outOwnRect c d).toLoadRect (View.loadsAt_vmem h_S256x512))
  Prog.lift (.store outM (outOwnRect c d) (k0_pay43 w2 v) Finset.univ (View.stores_vmem_bits_univ h_S256x512 rfl) (.inl rfl))

/-- The 256 rows of the result that row `t` of the gathering brought. -/
def gatherOut (c : Dev nD) (w2 : FVec F S512x512 .bf16) (t : Fin 3) (d : Fin 2) : P F PUnit := do
  let v ← Prog.lift (.load (agRecv d) (quadRect t).toLoadRect (View.loadsAt_vmem h_S1x4x64x512))
  let _ ← Prog.lift (.load outM (outRect c t d).toLoadRect (View.loadsAt_vmem h_S256x512))
  Prog.lift (.store outM (outRect c t d) (k0_pay44 w2 v) Finset.univ (View.stores_vmem_bits_univ h_S256x512 rfl) (.inl rfl))

/-- A gathered pair is passed on in rows 4 and 5. -/
def passHop (c : Dev nD) (t : Fin 2) (j : Fin 4) : P F PUnit := do
  recvL (⟨t.val + 3, by omega⟩, j, 0)
  recvL (⟨t.val + 3, by omega⟩, j, 1)
  sendL c (⟨t.val + 4, by omega⟩, j, 0)
  sendL c (⟨t.val + 4, by omega⟩, j, 1)
def lastHop (j : Fin 4) : P F PUnit := do
  recvL (5, j, 0)
  recvL (5, j, 1)

/-- A step for each of the four sub-blocks. -/
def four (f : Fin 4 → P F PUnit) : P F PUnit := do f 0; f 1; f 2; f 3
/-- A step for each direction. -/
def both (f : Fin 2 → P F PUnit) : P F PUnit := do f 0; f 1

def drain (s : Fin 3) (j : Fin 4) : P F PUnit := do
  doneL (⟨s.val, by omega⟩, j, 0)
  doneL (⟨s.val, by omega⟩, j, 1)
  doneL (⟨s.val + 3, by omega⟩, j, 0)
  doneL (⟨s.val + 3, by omega⟩, j, 1)

/-- The greeting of the two neighbours. -/
def greet (c : Dev nD) : P F PUnit := do
  semSignalWord (toward c 1) barrier0 1#32
  semSignalWord (toward c 0) barrier0 1#32
  semWaitWord barrier0 2#32

/-- The full product, kept for the later rows. -/
def fullProduct (w1 : FVec F S512x512 .bf16) : P F PUnit := do
  let v ← Prog.lift (.load xM (Rect.unit (s := S2048x512) ![0, 0] S2048x512.size inb_S2048x512_S2048x512_0_0).toLoadRect
    (View.loadsAt_vmem h_S2048x512))
  let _ ← Prog.lift (.load hM (Rect.unit (s := S2048x512) ![0, 0] S2048x512.size inb_S2048x512_S2048x512_0_0).toLoadRect
    (View.loadsAt_vmem h_S2048x512))
  Prog.lift (.store hM (Rect.unit (s := S2048x512) ![0, 0] S2048x512.size inb_S2048x512_S2048x512_0_0) (k0_pay12 w1 v) Finset.univ
    (View.stores_vmem h_S2048x512 ((Memref.isWhole_whole _).storeExact_slice rfl _ packedbf16_S2048x512_S2048x512_0_0) (fun _ => rfl))
    (.inl rfl))

/-- The body on device `c`. -/
def bodyAt (c : Dev nD) : P F PUnit := do
  greet c
  let w1 ← Prog.lift (.load w1M (Rect.unit (s := S512x512) ![0, 0] S512x512.size inb_S512x512_S512x512_0_0).toLoadRect
    (View.loadsAt_vmem h_S512x512))
  four fun j => both fun d => firstHop c (k0_pay1 w1) j d
  fullProduct (k0_pay1 w1)
  four fun j => both fun d => midHop c 0 j d
  four fun j => both fun d => midHop c 1 j d
  four fun j => both fun d => accHop c j d
  let w2 ← Prog.lift (.load w2M (Rect.unit (s := S512x512) ![0, 0] S512x512.size inb_S512x512_S512x512_0_0).toLoadRect
    (View.loadsAt_vmem h_S512x512))
  both fun d => ownOut c (k0_pay41 w2) d
  four fun j => passHop c 0 j
  both fun d => gatherOut c (k0_pay41 w2) 0 d
  four fun j => passHop c 1 j
  both fun d => gatherOut c (k0_pay41 w2) 1 d
  four fun j => lastHop j
  both fun d => gatherOut c (k0_pay41 w2) 2 d
  four fun j => drain 0 j
  four fun j => drain 1 j
  four fun j => drain 2 j

def body : P F PUnit := do
  let c ← Prog.lift .deviceId
  bodyAt c

end Cert.KernelIdeal.Ring

end
-- ==== Proof.Protocol.lean ====
/- The protocol: what each link carries, who waits for what, and what each landing hands over.

   Per device: the greeting's semaphore, and for each of the 48 links a departure and an arrival semaphore.
   * Greeting.  Each neighbour adds one; the device waits for two.  The neighbour on side `d` hands over the places on
     itself that the device's links of direction `d` will write.
   * Departure of link `ℓ`.  The transfer itself adds the credit when it has read its source, and gives back the half of
     the source lent to it.
   * Arrival of link `ℓ`.  The sender's transfer adds the credit and hands over the place written, holding the message. -/
module

public import proofs.«01_k».proof.Proof.Hops
public import Idealize.ShloMosaic.Lib.Pipeline.Launch
public import Idealize.ShloMosaic.Lib.Pipeline.Kit
public import Idealize.ShloMosaic.Lib.Tactic
public import Idealize.ShloMosaic.Lib.MemrefSat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-- The memory the launch starts from. -/
def s₀ : MemSt nD τ sig (Elt F) := ⟨m, fun _ => 0, ρ⟩

/-! ## The ring of devices -/

/-- The other direction. -/
def flip (d : Fin 2) : Fin 2 := 1 - d
theorem flip_flip (d : Fin 2) : flip (flip d) = d := by revert d; decide

theorem toward_zero_val (c : Dev nD) : (toward c 0).val = (c.val + 1) % 4 := k0_dev3_eq c
theorem toward_one_val (c : Dev nD) : (toward c 1).val = (c.val + 3) % 4 := k0_dev4_eq c

theorem toward_flip (c : Dev nD) (d : Fin 2) : toward (toward c d) (flip d) = c := by
  apply Fin.ext
  have hc := c.isLt
  fin_cases d
  · show (toward (toward c 0) 1).val = _
    rw [toward_one_val, toward_zero_val]; simp only [nD] at hc; omega
  · show (toward (toward c 1) 0).val = _
    rw [toward_zero_val, toward_one_val]; simp only [nD] at hc; omega

/-- Where a device's links of direction `d` come from. -/
abbrev origin (c : Dev nD) (d : Fin 2) : Dev nD := toward c (flip d)
theorem origin_toward (c : Dev nD) (d : Fin 2) : origin (toward c d) d = c := toward_flip c d
theorem toward_origin (c : Dev nD) (d : Fin 2) : toward (origin c d) d = c := by
  have h := toward_flip c (flip d); rwa [flip_flip] at h

/-- Going one step in direction `d`, as a permutation of the devices. -/
def turn (d : Fin 2) : Dev nD ≃ Dev nD := ⟨fun c => toward c d, fun c => origin c d, fun c => origin_toward c d, fun c => toward_origin c d⟩

/-! ## Semaphores -/

/-- A device's cells: the greeting's, and each link's departure (`false`) and arrival (`true`). -/
abbrev Cell : Type := Option (Link × Bool)

def osem (k : Cell) : SemLoc sig :=
  match k with
  | none => .reg barrier0
  | some (ℓ, false) => .dma (ssem ℓ)
  | some (ℓ, true) => .dma (rsem ℓ)

/-- Which cell a semaphore is: the link semaphores lie in eight arrays of twelve after the four of the pipeline. -/
def kindOf (s : SemLoc sig) : Option Cell :=
  match s with
  | .reg s => if s = barrier0 then some none else none
  | .dma q =>
    if h : 4 ≤ q.val then
      some (some ((⟨3 * ((q.val - 4) / 48) + (q.val - 4) % 12 / 4, by have := q.isLt; have : q.val < 100 := q.isLt; omega⟩,
        ⟨(q.val - 4) % 4, by omega⟩, ⟨(q.val - 4) / 24 % 2, by omega⟩), (q.val - 4) / 12 % 2 == 1))
    else none

theorem ssem_val (ℓ : Link) : (ssem ℓ).val = 4 + 48 * (ℓ.1.val / 3) + 24 * ℓ.2.2.val + 4 * (ℓ.1.val % 3) + ℓ.2.1.val := by
  revert ℓ; decide
theorem rsem_val (ℓ : Link) : (rsem ℓ).val = 16 + 48 * (ℓ.1.val / 3) + 24 * ℓ.2.2.val + 4 * (ℓ.1.val % 3) + ℓ.2.1.val := by
  revert ℓ; decide

theorem kindOf_bar : kindOf (.reg barrier0) = some none := by simp [kindOf]
theorem kindOf_ssem (ℓ : Link) : kindOf (.dma (ssem ℓ)) = some (some (ℓ, false)) := by
  have hv := ssem_val ℓ
  obtain ⟨⟨r, hr⟩, ⟨j, hj⟩, ⟨d, hd⟩⟩ := ℓ
  simp only at hv
  unfold kindOf
  simp only [hv]
  rw [dif_pos (by omega)]
  simp only [Option.some.injEq, Prod.mk.injEq, Fin.mk.injEq, beq_eq_false_iff_ne]
  refine ⟨⟨by omega, by omega, by omega⟩, by omega⟩
theorem kindOf_rsem (ℓ : Link) : kindOf (.dma (rsem ℓ)) = some (some (ℓ, true)) := by
  have hv := rsem_val ℓ
  obtain ⟨⟨r, hr⟩, ⟨j, hj⟩, ⟨d, hd⟩⟩ := ℓ
  simp only at hv
  unfold kindOf
  simp only [hv]
  rw [dif_pos (by omega)]
  simp only [Option.some.injEq, Prod.mk.injEq, Fin.mk.injEq, beq_iff_eq]
  refine ⟨⟨by omega, by omega, by omega⟩, by omega⟩
theorem kindOf_osem (k : Cell) : kindOf (osem k) = some k := by
  match k with
  | none => exact kindOf_bar
  | some (ℓ, false) => exact kindOf_ssem ℓ
  | some (ℓ, true) => exact kindOf_rsem ℓ
theorem osem_injective : Function.Injective osem := fun a b h => by
  have := congrArg kindOf h; rw [kindOf_osem, kindOf_osem] at this; exact Option.some.inj this

abbrev kcell (ck : Dev nD × Cell) : GSem nD τ sig := ((ck.1 : Thread nD τ), osem ck.2)
abbrev barCell (c : Dev nD) : GSem nD τ sig := ((c : Thread nD τ), .reg barrier0)
abbrev sCell (c : Dev nD) (ℓ : Link) : GSem nD τ sig := ((c : Thread nD τ), .dma (ssem ℓ))
abbrev rCell (c : Dev nD) (ℓ : Link) : GSem nD τ sig := ((c : Thread nD τ), .dma (rsem ℓ))

/-- The credit of one link: sixty-four rows. -/
abbrev N : ℕ := (slot4 (rsRecv 0) 0 0).view.dmaCredit
theorem N_pos : 0 < N := View.dmaCredit_pos _ (by decide)
theorem dstM_credit (ℓ : Link) : (dstM ℓ).view.dmaCredit = N := by unfold dstM; split_ifs <;> rfl
theorem srcM_credit (ℓ : Link) : (srcM ℓ).view.dmaCredit = N := by unfold srcM; split_ifs <;> rfl

/-! ## Contents -/

/-- The blocks the pipeline staged on device `c`. -/
def xIn (c : Dev nD) : Vec F S2048x512 .bf16 :=
  (win0_0.blk (0 : Fin 1)).view.read (Elt F) ((s₀ m ρ).mem ((c : Thread nD τ).loc main_arg0))
def w1In (c : Dev nD) : Vec F S512x512 .bf16 :=
  (win0_1.blk (0 : Fin 1)).view.read (Elt F) ((s₀ m ρ).mem ((c : Thread nD τ).loc main_arg1))
def w2In (c : Dev nD) : Vec F S512x512 .bf16 :=
  (win0_2.blk (0 : Fin 1)).view.read (Elt F) ((s₀ m ρ).mem ((c : Thread nD τ).loc main_arg2))

/-- The rows of a rectangle. -/
def rows (v : Vec F S2048x512 .bf16) (off : Fin 2 → Nat) (inb : ∀ a, off a + S64x512.size a ≤ S2048x512.size a) :
    Vec F S64x512 .bf16 := fun i => v ((Rect.unit (s := S2048x512) off S64x512.size inb).emb i)

/-- The device's full product. -/
def prod (c : Dev nD) : Vec F S2048x512 .bf16 := k0_pay12 (k0_pay1 (w1In m ρ c)) (xIn m ρ c)

/-- What device `c` sends by the link of row `r`. -/
def msgs : ℕ → Dev nD → Fin 4 → Fin 2 → Vec F S64x512 .bf16
  | 0, c, j, d => k0_pay10 (k0_pay1 (w1In m ρ c)) (rows (xIn m ρ c) (rowOff c 0 j d) (rowOff_inb c 0 j d))
  | r + 1, c, j, d =>
    if h : r + 1 < 3 then
      addf (rows (prod m ρ c) (rowOff c ⟨r + 1, h⟩ j d) (rowOff_inb c ⟨r + 1, h⟩ j d)) (msgs r (origin c d) j d)
    else if r + 1 = 3 then
      addf (rows (prod m ρ c) (ownOff c j d) (ownOff_inb c j d)) (msgs r (origin c d) j d)
    else msgs r (origin c d) j d

def msg (c : Dev nD) (ℓ : Link) : Vec F S64x512 .bf16 := msgs m ρ ℓ.1.val c ℓ.2.1 ℓ.2.2
/-- What arrives on device `c` by a link. -/
def got (c : Dev nD) (ℓ : Link) : Vec F S64x512 .bf16 := msg m ρ (origin c ℓ.2.2) ℓ

/-- A link's source on its sender, holding the message; its destination on its receiver, holding it. -/
def srcPt (q : PosShare TreeShare) (c : Dev nD) (ℓ : Link) : sProp 𝕄 := owns (c : Thread nD τ) (srcM ℓ) q (msg m ρ c ℓ)
def dstPt (q : PosShare TreeShare) (c : Dev nD) (ℓ : Link) : sProp 𝕄 := owns (c : Thread nD τ) (dstM ℓ) q (got m ρ c ℓ)
/-- The same places holding anything. -/
def srcAny (c : Dev nD) (ℓ : Link) : sProp 𝕄 :=
  iprop(∃ f, ((srcM ℓ).view.loc (c : Thread nD τ) ↦[(srcM ℓ).view.set]{fullShare} f))
def dstAny (c : Dev nD) (ℓ : Link) : sProp 𝕄 :=
  iprop(∃ f, ((dstM ℓ).view.loc (c : Thread nD τ) ↦[(dstM ℓ).view.set]{fullShare} f))

instance srcPt_storable (q) (c : Dev nD) (ℓ : Link) : BI.Storable (upEmb : UEmb _ 𝕄) (srcPt m ρ q c ℓ) := by unfold srcPt; infer_instance
instance dstPt_storable (q) (c : Dev nD) (ℓ : Link) : BI.Storable (upEmb : UEmb _ 𝕄) (dstPt m ρ q c ℓ) := by unfold dstPt; infer_instance
omit [FloatOps F] in
instance dstAny_storable (c : Dev nD) (ℓ : Link) : BI.Storable (upEmb : UEmb _ 𝕄) (dstAny (F := F) c ℓ) := by unfold dstAny; infer_instance

/-! ## The schedule -/

/-- The links of one direction. -/
abbrev linksOf (d : Fin 2) : Finset Link := Finset.univ.filter fun ℓ => ℓ.2.2 = d

/-- What the neighbour on side `d` hands device `c` with its greeting: the places `c`'s links of direction `d` write. -/
def barPay (c : Dev nD) (d : Fin 2) : sProp 𝕄 := bigSep (linksOf d) fun ℓ => dstAny (F := F) (toward c d) ℓ

omit [FloatOps F] in
instance barPay_storable (c : Dev nD) (d : Fin 2) : BI.Storable (upEmb : UEmb _ 𝕄) (barPay (F := F) c d) := by unfold barPay; infer_instance

/-- The schedule of every cell: one round. -/
def Rd : Rounds.Schedule (GSem nD τ sig) (Fin 2) 𝕄 where
  duties g r := if r = 0 ∧ g.1.2 = .tc then
      match kindOf g.2 with
      | some none => Finset.univ
      | some (some _) => {0}
      | none => ∅
    else ∅
  unitless _ := False
  amount g _ _ := match kindOf g.2 with
    | some none => 1
    | _ => N
  payload g _ d := match kindOf g.2 with
    | some none => barPay g.1.1 d
    | some (some (ℓ, false)) => srcPt m ρ fullShare.left g.1.1 ℓ
    | some (some (ℓ, true)) => dstPt m ρ fullShare g.1.1 ℓ
    | none => iprop(emp)
  amount_pos g _ _ _ := by
    split
    · exact Nat.one_pos
    · exact N_pos

instance Rd_payload_storable (g : GSem nD τ sig) (r : ℕ) (d : Fin 2) :
    BI.Storable (upEmb : UEmb _ 𝕄) ((Rd (F := F) m ρ).payload g r d) := by
  dsimp only [Rd]
  split <;> infer_instance

section Sched
variable (c : Dev nD) (ℓ : Link)

theorem duties_bar : (Rd (F := F) m ρ).duties (barCell c) 0 = Finset.univ := by
  dsimp only [Rd]; rw [if_pos ⟨rfl, rfl⟩, kindOf_bar]
theorem duties_s : (Rd (F := F) m ρ).duties (sCell c ℓ) 0 = {0} := by
  dsimp only [Rd]; rw [if_pos ⟨rfl, rfl⟩, kindOf_ssem]
theorem duties_r : (Rd (F := F) m ρ).duties (rCell c ℓ) 0 = {0} := by
  dsimp only [Rd]; rw [if_pos ⟨rfl, rfl⟩, kindOf_rsem]
theorem duties_later (g : GSem nD τ sig) : ∀ r, 1 ≤ r → (Rd (F := F) m ρ).duties g r = ∅ :=
  fun r hr => by dsimp only [Rd]; rw [if_neg fun h => by omega]

theorem amount_bar (d : Fin 2) : (Rd (F := F) m ρ).amount (barCell c) 0 d = 1 := by dsimp only [Rd]; rw [kindOf_bar]
theorem amount_s (d : Fin 2) : (Rd (F := F) m ρ).amount (sCell c ℓ) 0 d = N := by dsimp only [Rd]; rw [kindOf_ssem]
theorem amount_r (d : Fin 2) : (Rd (F := F) m ρ).amount (rCell c ℓ) 0 d = N := by dsimp only [Rd]; rw [kindOf_rsem]

theorem expect_bar : (Rd (F := F) m ρ).expect (barCell c) 0 = 2 := by
  unfold Schedule.expect Schedule.amountOf
  rw [duties_bar, Finset.sum_congr rfl fun d _ => amount_bar m ρ c d, Finset.sum_const, Finset.card_univ, Fintype.card_fin, smul_eq_mul]
theorem expect_s : (Rd (F := F) m ρ).expect (sCell c ℓ) 0 = N := by
  unfold Schedule.expect Schedule.amountOf; rw [duties_s, Finset.sum_singleton, amount_s]
theorem expect_r : (Rd (F := F) m ρ).expect (rCell c ℓ) 0 = N := by
  unfold Schedule.expect Schedule.amountOf; rw [duties_r, Finset.sum_singleton, amount_r]

theorem payload_bar (d : Fin 2) : (Rd (F := F) m ρ).payload (barCell c) 0 d = barPay c d := by dsimp only [Rd]; rw [kindOf_bar]
theorem payload_s (d : Fin 2) : (Rd (F := F) m ρ).payload (sCell c ℓ) 0 d = srcPt m ρ fullShare.left c ℓ := by
  dsimp only [Rd]; rw [kindOf_ssem]
theorem payload_r (d : Fin 2) : (Rd (F := F) m ρ).payload (rCell c ℓ) 0 d = dstPt m ρ fullShare c ℓ := by
  dsimp only [Rd]; rw [kindOf_rsem]

theorem rest_bar : bigSep ((Rd (F := F) m ρ).duties (barCell c) 0 \ ∅) (fun d => (Rd (F := F) m ρ).payload (barCell c) 0 d)
    = iprop(barPay (F := F) c 0 ∗ barPay (F := F) c 1) := by
  rw [Finset.sdiff_empty, duties_bar, bigSep_univ_two, payload_bar, payload_bar]
theorem rest_s : bigSep ((Rd (F := F) m ρ).duties (sCell c ℓ) 0 \ ∅) (fun d => (Rd (F := F) m ρ).payload (sCell c ℓ) 0 d)
    = srcPt m ρ fullShare.left c ℓ := by
  rw [Finset.sdiff_empty, duties_s, bigSep_singleton, payload_s]
theorem rest_r : bigSep ((Rd (F := F) m ρ).duties (rCell c ℓ) 0 \ ∅) (fun d => (Rd (F := F) m ρ).payload (rCell c ℓ) 0 d)
    = dstPt m ρ fullShare c ℓ := by
  rw [Finset.sdiff_empty, duties_r, bigSep_singleton, payload_r]

end Sched

/-! ## What a device owes, and in which order it may wait -/

theorem ix_injective : Function.Injective ix := by decide
theorem ix_lt (ℓ : Link) : ix ℓ < 48 := by revert ℓ; decide

/-- Before its `k`-th link a device owes the arrivals of the links from the `k`-th on. -/
def owed (c : Dev nD) (k : ℕ) : CellTallies nD τ sig Unit :=
  ∑ ℓ ∈ Finset.univ.filter (fun ℓ : Link => k ≤ ix ℓ), tallyAt (rCell (toward c ℓ.2.2) ℓ) () N
/-- Before its second greeting, and before its first. -/
def owed₁ (c : Dev nD) : CellTallies nD τ sig Unit := owed c 0 + tallyAt (barCell (toward c 0)) () 1
def owed₀ (c : Dev nD) : CellTallies nD τ sig Unit := owed₁ c + tallyAt (barCell (toward c 1)) () 1

theorem owed_step (c : Dev nD) (ℓ : Link) : owed c (ix ℓ) = owed c (ix ℓ + 1) + tallyAt (rCell (toward c ℓ.2.2) ℓ) () N := by
  unfold owed
  have h : Finset.univ.filter (fun ℓ' : Link => ix ℓ ≤ ix ℓ') = insert ℓ (Finset.univ.filter fun ℓ' : Link => ix ℓ + 1 ≤ ix ℓ') := by
    ext ℓ'
    simp only [Finset.mem_filter, Finset.mem_univ, true_and, Finset.mem_insert]
    constructor
    · intro h
      rcases Nat.lt_or_ge (ix ℓ) (ix ℓ') with h' | h'
      · exact .inr h'
      · exact .inl (ix_injective (Nat.le_antisymm h' h))
    · rintro (rfl | h)
      · exact Nat.le_refl _
      · omega
  rw [h, Finset.sum_insert (by simp), add_comm]
theorem owed_end (c : Dev nD) : owed c 48 = 0 := by
  unfold owed
  rw [Finset.filter_false_of_mem (fun ℓ _ => by have := ix_lt ℓ; omega), Finset.sum_empty]

def L (g : GSem nD τ sig) : Finset Unit := if g.1.2 = .tc then {()} else ∅
/-- Arrivals in their order, above the greeting, above everything else. -/
def lv (g : GSem nD τ sig) (_ : Unit) : ℕ :=
  match kindOf g.2 with
  | some none => 1
  | some (some (ℓ, true)) => 2 + ix ℓ
  | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kindOf_bar]
theorem lv_r (c : Dev nD) (ℓ : Link) : lv (rCell c ℓ) () = 2 + ix ℓ := by unfold lv; rw [kindOf_rsem]

theorem owed_pos {c : Dev nD} {k : ℕ} {g : GSem nD τ sig} {u : Unit} (h : 0 < owed c k g u) :
    ∃ ℓ : Link, k ≤ ix ℓ ∧ g = rCell (toward c ℓ.2.2) ℓ := by
  unfold owed at h
  rw [Finset.sum_apply, Finsupp.finset_sum_apply] at h
  obtain ⟨ℓ, hℓ, hp⟩ := Finset.exists_ne_zero_of_sum_ne_zero (Nat.pos_iff_ne_zero.mp h)
  refine ⟨ℓ, (Finset.mem_filter.mp hℓ).2, ?_⟩
  by_contra hn
  exact hp (by rw [tallyAt_apply, if_neg fun h' => hn h'.1])
theorem owed₀_pos {c : Dev nD} {g : GSem nD τ sig} {u : Unit} (h : 0 < owed₀ c g u) :
    (∃ ℓ : Link, g = rCell (toward c ℓ.2.2) ℓ) ∨ g = barCell (toward c 0) ∨ g = barCell (toward c 1) := by
  unfold owed₀ owed₁ at h
  rw [Pi.add_apply, Finsupp.add_apply, Pi.add_apply, Finsupp.add_apply, tallyAt_apply, tallyAt_apply] at h
  by_contra hn; rw [not_or, not_or] at hn
  obtain ⟨h1, h2, h3⟩ := hn
  rw [if_neg (fun h' => h2 h'.1), if_neg (fun h' => h3 h'.1)] at h
  simp only [Nat.add_zero] at h
  obtain ⟨ℓ, -, rfl⟩ := owed_pos h
  exact h1 ⟨ℓ, rfl⟩

omit [FloatOps F] in
/-- A device may wait for the arrival of a link before the `k`-th while it owes the links from the `k`-th on, -/
theorem mayWait_r (c : Dev nD) (ℓ : Link) (k : ℕ) (hk : ix ℓ < k) :
    (levAts L lv : sProp 𝕄) ⊢ MayWait (c : Thread nD τ) (.dma (rsem ℓ)) () (owed c k) :=
  MayOwe.of_cut (L := L) (lev := lv) (2 + ix ℓ) (fun p hp => by rw [Finset.mem_singleton.mp hp, L_tc]; exact Finset.mem_singleton_self _)
    (fun g u hg => by obtain ⟨ℓ', -, rfl⟩ := owed_pos hg; exact Finset.mem_singleton_self _)
    (fun p hp => by rw [Finset.mem_singleton.mp hp]; exact Nat.le_of_eq (lv_r c ℓ))
    (fun g u hg => by obtain ⟨ℓ', h, rfl⟩ := owed_pos hg; cases u; rw [lv_r]; omega)

omit [FloatOps F] in
/-- and for its greetings while it owes every link. -/
theorem mayWait_bar (c : Dev nD) : (levAts L lv : sProp 𝕄) ⊢ MayWait (c : Thread nD τ) (.reg barrier0) () (owed c 0) :=
  MayOwe.of_cut (L := L) (lev := lv) 1 (fun p hp => by rw [Finset.mem_singleton.mp hp, L_tc]; exact Finset.mem_singleton_self _)
    (fun g u hg => by obtain ⟨ℓ', -, rfl⟩ := owed_pos hg; exact Finset.mem_singleton_self _)
    (fun p hp => by rw [Finset.mem_singleton.mp hp]; exact Nat.le_of_eq (lv_bar c))
    (fun g u hg => by obtain ⟨ℓ', h, rfl⟩ := owed_pos hg; cases u; rw [lv_r]; omega)

omit [FloatOps F] in
/-- The pipeline's own waits come before everything, or after. -/
theorem mayWait_stage (c : Dev nD) (q : DmaSem sig) (hq : kindOf (.dma q) = none) (O : CellTallies nD τ sig Unit)
    (hO : O = owed₀ c ∨ O = 0) : (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases owed₀_pos hg with ⟨ℓ, rfl⟩ | rfl | rfl <;> exact Finset.mem_singleton_self _)
      (fun p hp => by rw [Finset.mem_singleton.mp hp]; dsimp only [lv]; rw [hq])
      (fun g u hg => by
        cases u
        rcases owed₀_pos hg with ⟨ℓ, rfl⟩ | rfl | rfl
        · rw [lv_r]; omega
        · rw [lv_bar]; omega
        · rw [lv_bar]; omega)
  · rw [MayWait_zero]; iintro -; iempintro

end Cert.KernelIdeal.Ring

end

end
-- ==== Proof.Steps.lean ====
/- Single instructions: what each needs and what it leaves. -/
module

public import proofs.«01_k».proof.Proof.Protocol
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A device's program, run to a postcondition. -/
abbrev runs (c : Dev nD) {α : Type} (p : P F α) (Q : α → sProp 𝕄) : sProp 𝕄 :=
  wp frame (wpE (defs₀ (F := F)) 𝒱₀ (c : Thread nD τ) none) Set.univ p Q

/-! ## Composition -/

/-- A proved program at the head of a sequence. -/
theorem runs_use {c : Dev nD} {α β : Type} {p : P F α} {k : α → P F β} {Pre : sProp 𝕄} {Q : α → sProp 𝕄} {Φ : β → sProp 𝕄}
    (h : Pre ⊢ runs c p Q) : Pre ⊢ iprop((∀ a, Q a -∗ runs c (k a) Φ) -∗ runs c (p >>= k) Φ) := by
  unfold runs
  rw [wp_bind]
  exact h.trans (wp_wand _ _ _)

/-- The same for the last program of a sequence. -/
theorem runs_last {c : Dev nD} {α : Type} {p : P F α} {Pre : sProp 𝕄} {Q : α → sProp 𝕄} {Φ : α → sProp 𝕄}
    (h : Pre ⊢ runs c p Q) : Pre ⊢ iprop((∀ a, Q a -∗ Φ a) -∗ runs c p Φ) := h.trans (wp_wand _ _ _)

/-- An assertion beside a run. -/
theorem runs_frame {c : Dev nD} {α : Type} {p : P F α} {Pre R : sProp 𝕄} {Q : α → sProp 𝕄}
    (h : Pre ⊢ runs c p Q) : iprop(Pre ∗ R) ⊢ runs c p (fun a => iprop(Q a ∗ R)) :=
  (sep_mono_left h).trans (wp_frame_r _ _ _)

/-! ## Loads and stores -/

/-- A memref's elements, holding anything. -/
def anyAt (c : Dev nD) {s : Shape} {e : EltTy} (M : Memref sig .tc .vmem s e) (q : PosShare TreeShare) : sProp 𝕄 :=
  iprop(∃ f, (M.view.loc (c : Thread nD τ) ↦[M.view.set]{q} f))

theorem owns_any (c : Dev nD) {s : Shape} {e : EltTy} (M : Memref sig .tc .vmem s e) (q : PosShare TreeShare) (X : s.Idx → Elt F e) :
    (owns (c : Thread nD τ) M q X : sProp 𝕄) ⊢ anyAt c M q := by
  unfold owns anyAt
  iintro ⟨%f, -, H⟩
  iexists f; iexact H

section Access
variable {s s' : Shape} {e : EltTy} (c : Dev nD) (M : Memref sig .tc .vmem s e) (q : PosShare TreeShare)

/-- A load through a rectangle of a memref held whole reads its contents there. -/
theorem runs_load (R : Rect s) (hl : M.view.LoadsAt R.toLoadRect) (X : s.Idx → Elt F e) :
    (owns (c : Thread nD τ) M q X : sProp 𝕄)
      ⊢ runs c (Prog.lift (.load M R.toLoadRect hl)) (fun v => iprop(⌜v = fun i => X (R.emb i)⌝ ∗ owns (c : Thread nD τ) M q X)) := by
  unfold owns
  iintro ⟨%f, %hf, H⟩
  iapply (wp_load 𝒱₀ (c : Thread nD τ) none Set.univ (m := M) (View.setOn_subset_set _ _)) $$ H
  iintro H
  iapply (le_wp_ret)
  isplitr
  · ipureintro; subst hf; rfl
  iexists f
  isplitr
  · ipureintro; exact hf
  · iexact H

variable (R : Rect s) (h1 : ∀ a, R.stride a = 1) (hq : R.shape.Squeezes s')

/-- A slot, squeezed. -/
abbrev slotOf : Memref sig .tc .vmem s' e := (M.slice R h1).squeeze s' hq

omit [FloatOps F] in
theorem slotOf_set : (slotOf M R h1 hq).view.set = (M.access R).set := View.set_reshape (v := (M.slice R h1).view) hq.numel_eq

omit [FloatOps F] in
/-- What a slot reads is what its rectangle reads, in its own shape. -/
theorem slotOf_read (f : M.view.ty.Contents (Elt F)) :
    (slotOf M R h1 hq).view.read (Elt F) f = fun i => (M.access R).read (Elt F) f (Shape.reshapeEquiv hq.numel_eq i) := rfl

/-- A load of a slot through the buffer it is part of. -/
theorem runs_load_slot (hl : M.view.LoadsAt R.toLoadRect) (X : s'.Idx → Elt F e) (hc : R.shape.ShapeCasts s') :
    (owns (c : Thread nD τ) (slotOf M R h1 hq) q X : sProp 𝕄)
      ⊢ runs c (Prog.lift (.load M R.toLoadRect hl))
          (fun v => iprop(⌜shapeCast s' v hc = X⌝ ∗ owns (c : Thread nD τ) (slotOf M R h1 hq) q X)) := by
  unfold owns
  iintro ⟨%f, %hf, H⟩
  iapply (wp_load_rect 𝒱₀ (c : Thread nD τ) none Set.univ (m := M) (r := R) (subset_of_eq (slotOf_set M R h1 hq).symm)) $$ H
  iintro H
  iapply (le_wp_ret)
  isplitr
  · ipureintro; subst hf; rfl
  iexists f
  isplitr
  · ipureintro; exact hf
  · iexact H

/-- A load of a slot whose value is not used. -/
theorem runs_load_any (hl : M.view.LoadsAt R.toLoadRect) :
    (anyAt c (slotOf M R h1 hq) q : sProp 𝕄)
      ⊢ runs c (Prog.lift (.load M R.toLoadRect hl))
          (fun _ => anyAt c (slotOf M R h1 hq) q) := by
  unfold anyAt
  iintro ⟨%f, H⟩
  iapply (wp_load_rect 𝒱₀ (c : Thread nD τ) none Set.univ (m := M) (r := R) (subset_of_eq (slotOf_set M R h1 hq).symm)) $$ H
  iintro H
  iapply (le_wp_ret)
  iexists f
  iexact H

/-- A store to a slot through the buffer it is part of. -/
theorem runs_store_slot (v : R.shape.Idx → Elt F e) (hx : (M.access R).Stores Finset.univ) (hm) (hc : R.shape.ShapeCasts s') :
    (anyAt c (slotOf M R h1 hq) fullShare : sProp 𝕄)
      ⊢ runs c (Prog.lift (.store M R v Finset.univ hx hm))
          (fun _ => owns (c : Thread nD τ) (slotOf M R h1 hq) fullShare (shapeCast s' v hc)) := by
  unfold anyAt
  iintro ⟨%f, H⟩
  iapply (wp_store 𝒱₀ (c : Thread nD τ) none Set.univ (m := M) (r := R) (subset_of_eq (slotOf_set M R h1 hq).symm)) $$ H
  iintro H
  iapply (le_wp_ret)
  unfold owns
  iexists (M.access R).write (Elt F) f v Finset.univ
  isplitr
  · ipureintro
    rw [slotOf_read, View.read_write_univ]; rfl
  · iexact H

end Access

/-! ## Loops -/

theorem bigSep_fin_four (A : Fin 4 → sProp 𝕄) : bigSep Finset.univ A = iprop(A 0 ∗ A 1 ∗ A 2 ∗ A 3) := by
  rw [show (Finset.univ : Finset (Fin 4)) = {0, 1, 2, 3} from rfl, bigSep_insert (by decide), bigSep_insert (by decide),
    bigSep_insert (by decide), bigSep_singleton]
  rfl

/-- A step for each sub-block: `I` goes along, `A` turns into `B`. -/
theorem runs_four (c : Dev nD) (f : Fin 4 → P F PUnit) (I : ℕ → sProp 𝕄) (A B : Fin 4 → sProp 𝕄)
    (h : ∀ j, iprop(I j.val ∗ A j) ⊢ runs c (f j) (fun _ => iprop(I (j.val + 1) ∗ B j))) :
    iprop(I 0 ∗ bigSep Finset.univ A) ⊢ runs c (four f) (fun _ => iprop(I 4 ∗ bigSep Finset.univ B)) := by
  have h0 : iprop(I 0 ∗ A 0) ⊢ runs c (f 0) (fun _ => iprop(I 1 ∗ B 0)) := h 0
  have h1 : iprop(I 1 ∗ A 1) ⊢ runs c (f 1) (fun _ => iprop(I 2 ∗ B 1)) := h 1
  have h2 : iprop(I 2 ∗ A 2) ⊢ runs c (f 2) (fun _ => iprop(I 3 ∗ B 2)) := h 2
  have h3 : iprop(I 3 ∗ A 3) ⊢ runs c (f 3) (fun _ => iprop(I 4 ∗ B 3)) := h 3
  rw [bigSep_fin_four, bigSep_fin_four]
  unfold four
  iintro ⟨HI, H0, H1, H2, H3⟩
  iapply (runs_use h0) $$ [HI H0]
  · isplitl [HI] <;> iassumption
  iintro %_ ⟨HI, H0⟩
  iapply (runs_use h1) $$ [HI H1]
  · isplitl [HI] <;> iassumption
  iintro %_ ⟨HI, H1⟩
  iapply (runs_use h2) $$ [HI H2]
  · isplitl [HI] <;> iassumption
  iintro %_ ⟨HI, H2⟩
  iapply (runs_last h3) $$ [HI H3]
  · isplitl [HI] <;> iassumption
  iintro %_ ⟨HI, H3⟩
  isplitl [HI]; · iexact HI
  isplitl [H0]; · iexact H0
  isplitl [H1]; · iexact H1
  isplitl [H2] <;> iassumption

/-- A step for each direction. -/
theorem runs_both (c : Dev nD) (f : Fin 2 → P F PUnit) (I : ℕ → sProp 𝕄) (A B : Fin 2 → sProp 𝕄)
    (h : ∀ d, iprop(I d.val ∗ A d) ⊢ runs c (f d) (fun _ => iprop(I (d.val + 1) ∗ B d))) :
    iprop(I 0 ∗ bigSep Finset.univ A) ⊢ runs c (both f) (fun _ => iprop(I 2 ∗ bigSep Finset.univ B)) := by
  have h0 : iprop(I 0 ∗ A 0) ⊢ runs c (f 0) (fun _ => iprop(I 1 ∗ B 0)) := h 0
  have h1 : iprop(I 1 ∗ A 1) ⊢ runs c (f 1) (fun _ => iprop(I 2 ∗ B 1)) := h 1
  rw [bigSep_univ_two, bigSep_univ_two]
  unfold both
  iintro ⟨HI, H0, H1⟩
  iapply (runs_use h0) $$ [HI H0]
  · isplitl [HI] <;> iassumption
  iintro %_ ⟨HI, H0⟩
  iapply (runs_last h1) $$ [HI H1]
  · isplitl [HI] <;> iassumption
  iintro %_ ⟨HI, H1⟩
  isplitl [HI]; · iexact HI
  isplitl [H0] <;> iassumption

/-- An assertion for each sub-block and direction. -/
abbrev each (A : Fin 4 → Fin 2 → sProp 𝕄) : sProp 𝕄 := bigSep Finset.univ fun j => bigSep Finset.univ fun d => A j d

/-- A step for each sub-block and direction, the `k`-th link coming first. -/
theorem runs_each (c : Dev nD) (f : Fin 4 → Fin 2 → P F PUnit) (k : ℕ) (I : ℕ → sProp 𝕄) (A B : Fin 4 → Fin 2 → sProp 𝕄)
    (h : ∀ j d, iprop(I (k + 2 * j.val + d.val) ∗ A j d) ⊢ runs c (f j d) (fun _ => iprop(I (k + 2 * j.val + d.val + 1) ∗ B j d))) :
    iprop(I k ∗ each A) ⊢ runs c (four fun j => both fun d => f j d) (fun _ => iprop(I (k + 8) ∗ each B)) :=
  runs_four c _ (fun j => I (k + 2 * j)) _ _ fun j => runs_both c _ (fun d => I (k + 2 * j.val + d)) _ _ fun d => h j d

/-! ## Links -/

/-- What every device knows: the cells' invariants, that each has begun, and the order of waiting. -/
def known (K : Dev nD × Cell → ℕ) : sProp 𝕄 :=
  iprop((bigSep Finset.univ fun ck : Dev nD × Cell => iprop(cellInv ER (Rd m ρ) (K ck) (kcell ck) ∗ reached ER (kcell ck) 0)) ∗ levAts L lv)

instance known_persistent (K : Dev nD × Cell → ℕ) : BI.Persistent (known (F := F) m ρ K) := by unfold known; infer_instance

variable (K : Dev nD × Cell → ℕ)

theorem known_at (ck : Dev nD × Cell) :
    known m ρ K ⊢ iprop(cellInv ER (Rd m ρ) (K ck) (kcell ck) ∗ reached ER (kcell ck) 0) := by
  unfold known
  have h : (bigSep Finset.univ fun ck : Dev nD × Cell => iprop(cellInv ER (Rd m ρ) (K ck) (kcell ck) ∗ reached ER (kcell ck) 0))
      ⊢ iprop(cellInv ER (Rd m ρ) (K ck) (kcell ck) ∗ reached ER (kcell ck) 0) := bigSep_elim (Finset.mem_univ ck)
  iintro ⟨H, -⟩
  iapply h $$ H

theorem known_lev : known m ρ K ⊢ levAts L lv := by
  unfold known
  iintro ⟨-, H⟩
  iexact H

/-- What the device owes before its `k`-th link. -/
def debt (c : Dev nD) (k : ℕ) : sProp 𝕄 := iprop(∃ W, owes (c : Thread nD τ) (owed c k) W)

/-- A link not started: its two duties, the place it will write, the departure's position. -/
def Ready (c : Dev nD) (ℓ : Link) : sProp 𝕄 :=
  iprop(dutyTok ER (sCell c ℓ) 0 0 ∗ dutyTok ER (rCell (toward c ℓ.2.2) ℓ) 0 0 ∗ dstAny (toward c ℓ.2.2) ℓ ∗ atPos ER (sCell c ℓ) 0 ∅ 0)
/-- A link under way, on its sender. -/
def Away (c : Dev nD) (ℓ : Link) : sProp 𝕄 := iprop(cred (tallyAt (sCell c ℓ) () N) ∗ atPos ER (sCell c ℓ) 0 ∅ 0)
/-- A link departed. -/
def Gone (c : Dev nD) (ℓ : Link) : sProp 𝕄 := iprop(semVal (sCell c ℓ) 0 ∗ srcPt m ρ fullShare.left c ℓ)
/-- A link not yet arrived, on its receiver. -/
def Due (c : Dev nD) (ℓ : Link) : sProp 𝕄 := iprop(cred (tallyAt (rCell c ℓ) () N) ∗ atPos ER (rCell c ℓ) 0 ∅ 0)

/-- Starting a link lends half its source and settles one arrival. -/
theorem runs_send (c : Dev nD) (ℓ : Link) (k : ℕ) (hk : k = ix ℓ) :
    iprop(known m ρ K ∗ debt c k ∗ srcPt m ρ fullShare.left c ℓ ∗ Ready c ℓ)
      ⊢ runs c (sendL c ℓ) (fun _ => iprop(debt c (k + 1) ∗ Away c ℓ)) := by
  subst hk
  unfold debt srcPt Ready dstAny Away owns
  iintro ⟨#HK, ⟨%W, HO⟩, ⟨%f, %hf, Hs⟩, Ht1, Ht2, ⟨%g, Hd⟩, Hat⟩
  ihave HIs := (known_at m ρ K (c, some (ℓ, false))) $$ HK
  icases HIs with ⟨HI1, Hr1⟩
  ihave HIr := (known_at m ρ K (toward c ℓ.2.2, some (ℓ, true))) $$ HK
  icases HIr with ⟨HI2, Hr2⟩
  iapply (wp_send_pointsTo 𝒱₀ ER (Rd m ρ) (c : Thread nD τ) none (κ₁ := K (c, some (ℓ, false)))
      (κ₂ := K (toward c ℓ.2.2, some (ℓ, true))) (r₁ := 0) (r₂ := 0) (d₁ := 0) (d₂ := 0) (fd := g)
      (by rw [duties_s]; exact Finset.mem_singleton_self _) (by rw [duties_r]; exact Finset.mem_singleton_self _) () () N
      (show (dstM ℓ).view.amount (.dma (rsem ℓ)) = N from dstM_credit ℓ) (amount_s m ρ c ℓ 0) (amount_r m ρ (toward c ℓ.2.2) ℓ 0) (owed c (ix ℓ + 1)) (owed_step c ℓ) (W := W)
      (by
        rw [payload_s]; unfold srcPt owns
        iintro H
        iexists f
        isplitr
        · ipureintro; exact hf
        · iexact H)
      (by
        rw [payload_r]; unfold dstPt owns
        iintro H
        iexists ((dstM ℓ).view.write (Elt F) g ((srcM ℓ).view.read (Elt F) f) Finset.univ)
        isplitr
        · ipureintro
          rw [View.read_write_univ, hf]
          unfold got
          rw [origin_toward]
        · iexact H)) $$ [HI1 HI2 Hr1 Hr2 HO Hs Hd Ht1 Ht2]
  · isplitl [HI1]; · iexact HI1
    isplitl [HI2]; · iexact HI2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply (le_wp_ret)
  isplitl [HO]; · iexists W; iexact HO
  isplitl [Hc] <;> iassumption

/-- Waiting for an arrival hands over the place written. -/
theorem runs_recv (c : Dev nD) (ℓ : Link) (k : ℕ) (hk : ix ℓ < k) :
    iprop(known m ρ K ∗ debt c k ∗ Due c ℓ)
      ⊢ runs c (recvL ℓ) (fun _ => iprop(debt c k ∗ semVal (rCell c ℓ) 0 ∗ dstPt m ρ fullShare c ℓ)) := by
  unfold debt Due
  iintro ⟨#HK, ⟨%W, HO⟩, Hc, Hat⟩
  ihave HIs := (known_at m ρ K (c, some (ℓ, true))) $$ HK
  icases HIs with ⟨#HI, Hr⟩
  iapply (wp_wait_rest_token 𝒱₀ ER (Rd m ρ) (c : Thread nD τ) none (κ := K (c, some (ℓ, true)))
      (wpE_waitDma2_eq 𝒱₀ (c : Thread nD τ) none Set.univ) (Set.mem_univ _) () (O := owed c k) (W := W) (R := 0) (m := 0) (T := ∅)
      (by rw [Nat.zero_add, dstM_credit, expect_r])) $$ [Hc HO Hat]
  · isplitr; · iexact HI
    isplitl [Hc]; · rw [dstM_credit]; iexact Hc
    isplitl [HO]; · iexact HO
    isplitr
    · ihave Hl := (known_lev m ρ K) $$ HK
      iapply (mayWait_r c ℓ k hk); iexact Hl
    iexact Hat
  iintro ⟨HO, Hat, -, Hp⟩
  ihave Hp := (Entails.of_eq (rest_r m ρ c ℓ)) $$ Hp
  imod (Rounds.cell_close ER (Rd m ρ) (Set.mem_univ (K (c, some (ℓ, true)))) (fun h => h) (R := 0 + 1) (duties_later m ρ (rCell c ℓ))) $$ [Hat] with Hz
  · isplitr; · iexact HI
    iexact Hat
  iapply (le_wp_ret)
  isplitl [HO]; · iexists _; iexact HO
  isplitl [Hz] <;> iassumption

/-- Waiting for a departure gives back the half of the source lent. -/
theorem runs_done (c : Dev nD) (ℓ : Link) :
    iprop(known m ρ K ∗ debt c 48 ∗ Away c ℓ) ⊢ runs c (doneL ℓ) (fun _ => iprop(debt c 48 ∗ Gone m ρ c ℓ)) := by
  unfold debt Away Gone
  rw [owed_end]
  iintro ⟨#HK, ⟨%W, HO⟩, Hc, Hat⟩
  ihave HIs := (known_at m ρ K (c, some (ℓ, false))) $$ HK
  icases HIs with ⟨#HI, Hr⟩
  iapply (wp_wait_rest_token 𝒱₀ ER (Rd m ρ) (c : Thread nD τ) none (κ := K (c, some (ℓ, false)))
      (wpE_waitDma2_eq 𝒱₀ (c : Thread nD τ) none Set.univ) (Set.mem_univ _) () (O := 0) (W := W) (R := 0) (m := 0) (T := ∅)
      (by rw [Nat.zero_add, srcM_credit, expect_s])) $$ [Hc HO Hat]
  · isplitr; · iexact HI
    isplitl [Hc]; · rw [srcM_credit]; iexact Hc
    isplitl [HO]; · iexact HO
    isplitr; · rw [MayWait_zero]; iempintro
    iexact Hat
  iintro ⟨HO, Hat, -, Hp⟩
  ihave Hp := (Entails.of_eq (rest_s m ρ c ℓ)) $$ Hp
  imod (Rounds.cell_close ER (Rd m ρ) (Set.mem_univ (K (c, some (ℓ, false)))) (fun h => h) (R := 0 + 1) (duties_later m ρ (sCell c ℓ))) $$ [Hat] with Hz
  · isplitr; · iexact HI
    iexact Hat
  iapply (le_wp_ret)
  isplitl [HO]; · iexists _; iexact HO
  isplitl [Hz] <;> iassumption

end Cert.KernelIdeal.Ring

end

end
-- ==== Proof.Slots.lean ====
/- Buffers in slots: a buffer held slot by slot, and a run of slots read at once. -/
module

public import proofs.«01_k».proof.Proof.Steps
public import Idealize.ShloMosaic.Lib.ValueLayout

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

section Family
variable {s s' : Shape} {e : EltTy} (c : Dev nD) (M : Memref sig .tc .vmem s e) (q : PosShare TreeShare)
  {T : Type} [Fintype T] [DecidableEq T] [Nonempty T] (r : T → Rect s) (h1 : ∀ t a, (r t).stride a = 1) (hq : ∀ t, (r t).shape.Squeezes s')
  (hd : ∀ t t', t ≠ t' → Disjoint (r t).set (r t').set)
  (S : Finset s.Idx) (hS : (Finset.univ : Finset T).biUnion (fun t => (r t).set) = S)

omit [FloatOps F] [Fintype T] [DecidableEq T] [Nonempty T] in
theorem slot_set (t : T) : (slotOf M (r t) (h1 t) (hq t)).view.set = (r t).set.map M.view.emb :=
  (slotOf_set M (r t) (h1 t) (hq t)).trans (View.set_slice _ _)

omit [FloatOps F] [DecidableEq T] [Nonempty T] in
include hS in
theorem slots_cover : M.view.setOn S = (Finset.univ : Finset T).biUnion fun t => (slotOf M (r t) (h1 t) (hq t)).view.set := by
  have h : (fun t => (slotOf M (r t) (h1 t) (hq t)).view.set) = fun t => ((r t).set.map M.view.emb : Finset M.view.ty.Idx) :=
    funext fun t => slot_set M r h1 hq t
  rw [← hS, h]
  unfold View.setOn
  ext i
  simp only [Finset.mem_map, Finset.mem_biUnion, Finset.mem_univ, true_and]
  constructor
  · rintro ⟨a, ⟨t, ht⟩, rfl⟩; exact ⟨t, a, ht, rfl⟩
  · rintro ⟨t, a, ht, rfl⟩; exact ⟨a, ⟨t, ht⟩, rfl⟩

omit [FloatOps F] [Fintype T] [DecidableEq T] [Nonempty T] in
include hd in
theorem slots_disjoint (t t' : T) (h : t ≠ t') :
    Disjoint (slotOf M (r t) (h1 t) (hq t)).view.set (slotOf M (r t') (h1 t') (hq t')).view.set := by
  rw [slot_set M r h1 hq, slot_set M r h1 hq]
  exact (Finset.disjoint_map _).mpr (hd t t' h)

/-- One slot's elements of the buffer, at `f`. -/
abbrev slotAt (t : T) (f : Buf (Elt F) (M.view.loc (c : Thread nD τ))) : sProp 𝕄 :=
  iprop(M.view.loc (c : Thread nD τ) ↦[(slotOf M (r t) (h1 t) (hq t)).view.set]{q} f)

include hd hS

/-- Elements held at `f` are their slots held at `f`. -/
theorem slots_pointsTo (f : Buf (Elt F) (M.view.loc (c : Thread nD τ))) :
    (M.view.loc (c : Thread nD τ) ↦[M.view.setOn S]{q} f : sProp 𝕄)
      = bigSep Finset.univ fun t => slotAt c M q r h1 hq t f := by
  rw [slots_cover M r h1 hq S hS]
  have h := pointsTo_biUnion (Ix := Unit) (Val := Elt F) (Name := ℕ) (U := UU) (Lvl := ℕ) (q := q) (f := f) (ℓ := M.view.loc (c : Thread nD τ)) Finset.univ
    (fun t => (slotOf M (r t) (h1 t) (hq t)).view.set) (fun t _ t' _ h => slots_disjoint M r h1 hq hd t t' h)
  exact h

/-- Slots held at various contents are held together at one that agrees with each. -/
theorem slots_join (fs : T → Buf (Elt F) (M.view.loc (c : Thread nD τ))) :
    (bigSep Finset.univ fun t => slotAt c M q r h1 hq t (fs t))
      ⊢ (iprop(∃ g, ⌜∀ t, ∀ i ∈ (slotOf M (r t) (h1 t) (hq t)).view.set, g i = fs t i⌝ ∗ (M.view.loc (c : Thread nD τ) ↦[M.view.setOn S]{q} g)) : sProp 𝕄) := by
  rw [slots_cover M r h1 hq S hS]
  have h := pointsTo_biUnion_join (Ix := Unit) (Val := Elt F) (Name := ℕ) (U := UU) (Lvl := ℕ) (q := q) (ℓ := M.view.loc (c : Thread nD τ)) Finset.univ
    (fun t => (slotOf M (r t) (h1 t) (hq t)).view.set) fs (fs (Classical.arbitrary T)) (fun t _ t' _ h => slots_disjoint M r h1 hq hd t t' h)
  refine h.trans ?_
  iintro ⟨%g, %hg, H⟩
  iexists g
  isplitr
  · ipureintro; exact fun t => hg t (Finset.mem_univ t)
  · iexact H

/-- Elements holding anything, slot by slot, -/
theorem any_split :
    (iprop(∃ f, (M.view.loc (c : Thread nD τ) ↦[M.view.setOn S]{q} f)) : sProp 𝕄)
      ⊢ bigSep Finset.univ fun t => anyAt c (slotOf M (r t) (h1 t) (hq t)) q := by
  iintro ⟨%f, H⟩
  ihave H := (Entails.of_eq (slots_pointsTo c M q r h1 hq hd S hS f)) $$ H
  have h0 : ∀ t, slotAt c M q r h1 hq t f ⊢ anyAt c (slotOf M (r t) (h1 t) (hq t)) q := fun t => by
    unfold anyAt
    iintro H
    iexists f
    iexact H
  have h : (bigSep Finset.univ fun t => slotAt c M q r h1 hq t f) ⊢ bigSep Finset.univ fun t => anyAt c (slotOf M (r t) (h1 t) (hq t)) q :=
    bigSep_mono fun t _ => h0 t
  iapply h $$ H

/-- and back. -/
theorem any_join :
    (bigSep Finset.univ fun t => anyAt (F := F) c (slotOf M (r t) (h1 t) (hq t)) q)
      ⊢ (iprop(∃ f, (M.view.loc (c : Thread nD τ) ↦[M.view.setOn S]{q} f)) : sProp 𝕄) := by
  have hn : ∀ t : T, Nonempty (Buf (Elt F) (M.view.loc (c : Thread nD τ))) := fun t => inferInstance
  have h : (bigSep Finset.univ fun t => anyAt (F := F) c (slotOf M (r t) (h1 t) (hq t)) q)
      ⊢ (iprop(∃ fs : T → Buf (Elt F) (M.view.loc (c : Thread nD τ)), bigSep Finset.univ fun t => slotAt c M q r h1 hq t (fs t)) : sProp 𝕄) :=
    bigSep_exists_pi Finset.univ (fun t f => slotAt c M q r h1 hq t f)
  refine h.trans ?_
  iintro ⟨%fs, H⟩
  ihave H := (slots_join c M q r h1 hq hd S hS fs) $$ H
  icases H with ⟨%g, -, H⟩
  iexists g; iexact H

/-- A run of slots holding their parts of `X`: together they read as `X`, -/
theorem owns_join (X : s.Idx → Elt F e) :
    (bigSep Finset.univ fun t => (owns (c : Thread nD τ) (slotOf M (r t) (h1 t) (hq t)) q
        (fun i => X ((r t).emb (Shape.reshapeEquiv (hq t).numel_eq i))) : sProp 𝕄))
      ⊢ iprop(∃ f, ⌜∀ x ∈ S, M.view.read (Elt F) f x = X x⌝ ∗ (M.view.loc (c : Thread nD τ) ↦[M.view.setOn S]{q} f)) := by
  have hn : ∀ t : T, Nonempty (Buf (Elt F) (M.view.loc (c : Thread nD τ))) := fun t => inferInstance
  have h : (bigSep Finset.univ fun t => (owns (c : Thread nD τ) (slotOf M (r t) (h1 t) (hq t)) q
        (fun i => X ((r t).emb (Shape.reshapeEquiv (hq t).numel_eq i))) : sProp 𝕄))
      ⊢ (iprop(∃ fs : T → Buf (Elt F) (M.view.loc (c : Thread nD τ)), bigSep Finset.univ fun t =>
          iprop(⌜(slotOf M (r t) (h1 t) (hq t)).view.read (Elt F) (fs t) = fun i => X ((r t).emb (Shape.reshapeEquiv (hq t).numel_eq i))⌝
            ∗ slotAt c M q r h1 hq t (fs t))) : sProp 𝕄) :=
    bigSep_exists_pi Finset.univ (fun t (f : Buf (Elt F) (M.view.loc (c : Thread nD τ))) =>
          iprop(⌜(slotOf M (r t) (h1 t) (hq t)).view.read (Elt F) f = fun i => X ((r t).emb (Shape.reshapeEquiv (hq t).numel_eq i))⌝
            ∗ slotAt c M q r h1 hq t f))
  refine h.trans ?_
  iintro ⟨%fs, H⟩
  ihave H := (bigSep_pure_sep Finset.univ _ _) $$ H
  icases H with ⟨%hf, H⟩
  ihave H := (slots_join c M q r h1 hq hd S hS fs) $$ H
  icases H with ⟨%g, %hg, H⟩
  iexists g
  isplitr
  · ipureintro
    intro x hx
    rw [← hS] at hx
    obtain ⟨t, -, hx⟩ := Finset.mem_biUnion.mp hx
    obtain ⟨i, rfl⟩ := (r t).exists_idx_of_mem hx
    obtain ⟨i, rfl⟩ := (Shape.reshapeEquiv (hq t).numel_eq).surjective i
    refine Eq.trans ?_ (congrFun (hf t (Finset.mem_univ t)) i)
    have := hg t ((slotOf M (r t) (h1 t) (hq t)).view.emb i) (Finset.mem_map_of_mem _ (Finset.mem_univ i))
    exact congrArg _ this
  · iexact H

/-- and back. -/
theorem owns_split (X : s.Idx → Elt F e) (f : Buf (Elt F) (M.view.loc (c : Thread nD τ))) (hf : ∀ x ∈ S, M.view.read (Elt F) f x = X x) :
    (M.view.loc (c : Thread nD τ) ↦[M.view.setOn S]{q} f : sProp 𝕄)
      ⊢ bigSep Finset.univ fun t => (owns (c : Thread nD τ) (slotOf M (r t) (h1 t) (hq t)) q
        (fun i => X ((r t).emb (Shape.reshapeEquiv (hq t).numel_eq i))) : sProp 𝕄) := by
  rw [slots_pointsTo c M q r h1 hq hd S hS f]
  have h : ∀ t, slotAt c M q r h1 hq t f ⊢ (owns (c : Thread nD τ) (slotOf M (r t) (h1 t) (hq t)) q
        (fun i => X ((r t).emb (Shape.reshapeEquiv (hq t).numel_eq i))) : sProp 𝕄) := fun t => by
    unfold owns
    iintro H
    iexists f
    isplitr
    · ipureintro
      funext i
      refine hf _ ?_
      rw [← hS]
      exact Finset.mem_biUnion.mpr ⟨t, Finset.mem_univ _, by rw [← Rect.map_emb_univ]; exact Finset.mem_map_of_mem _ (Finset.mem_univ _)⟩
    · iexact H
  exact bigSep_mono fun t _ => h t

end Family

/-- A load of a run of slots reads what they hold. -/
theorem runs_load_run {s s' : Shape} {e : EltTy} (c : Dev nD) (M : Memref sig .tc .vmem s e) (q : PosShare TreeShare)
    {T : Type} [Fintype T] [DecidableEq T] [Nonempty T] (r : T → Rect s) (h1 : ∀ t a, (r t).stride a = 1) (hq : ∀ t, (r t).shape.Squeezes s')
    (hd : ∀ t t', t ≠ t' → Disjoint (r t).set (r t').set) (R : Rect s)
    (hS : (Finset.univ : Finset T).biUnion (fun t => (r t).set) = R.set) (hl : M.view.LoadsAt R.toLoadRect) (X : s.Idx → Elt F e) :
    (bigSep Finset.univ fun t => (owns (c : Thread nD τ) (slotOf M (r t) (h1 t) (hq t)) q
        (fun i => X ((r t).emb (Shape.reshapeEquiv (hq t).numel_eq i))) : sProp 𝕄))
      ⊢ runs c (Prog.lift (.load M R.toLoadRect hl)) (fun v => iprop(⌜v = fun i => X (R.emb i)⌝
          ∗ bigSep Finset.univ fun t => (owns (c : Thread nD τ) (slotOf M (r t) (h1 t) (hq t)) q
              (fun i => X ((r t).emb (Shape.reshapeEquiv (hq t).numel_eq i))) : sProp 𝕄))) := by
  iintro H
  ihave H := (owns_join c M q r h1 hq hd R.set hS X) $$ H
  icases H with ⟨%f, %hf, H⟩
  iapply (wp_load 𝒱₀ (c : Thread nD τ) none Set.univ (m := M) (r := R.toLoadRect) (S := M.view.setOn R.set) (subset_of_eq rfl)) $$ H
  iintro H
  iapply (le_wp_ret)
  isplitr
  · ipureintro
    funext i
    exact hf _ (by rw [← Rect.map_emb_univ]; exact Finset.mem_map_of_mem _ (Finset.mem_univ _))
  · iapply (owns_split c M q r h1 hq hd R.set hS X f hf) $$ H

/-- A store through a rectangle of a memref held whole puts the stored block over its contents. -/
theorem runs_store_over {s : Shape} {e : EltTy} (c : Dev nD) (M : Memref sig .tc .vmem s e) (R : Rect s) (h1 : ∀ a, R.stride a = 1)
    (v : R.shape.Idx → Elt F e) (hx : (M.access R).Stores Finset.univ) (hm) (Y : s.Idx → Elt F e) :
    (owns (c : Thread nD τ) M fullShare Y : sProp 𝕄)
      ⊢ runs c (Prog.lift (.store M R v Finset.univ hx hm)) (fun _ => owns (c : Thread nD τ) M fullShare (R.overlay Y v)) := by
  iintro H
  ihave H := (owns_slice_split (c : Thread nD τ) M fullShare R h1 Y) $$ H
  icases H with ⟨Hs, ⟨%f, %hf, Hr⟩⟩
  unfold owns
  icases Hs with ⟨%g, -, Hs⟩
  iapply (wp_store 𝒱₀ (c : Thread nD τ) none Set.univ (m := M) (r := R) (S := (M.slice R h1).view.set) (subset_of_eq rfl)) $$ Hs
  iintro Hs
  iapply (le_wp_ret)
  subst hf
  have h := owns_slice_join (Val := Elt F) (Ix := Unit) (Name := ℕ) (U := UU) (Lvl := ℕ) (c : Thread nD τ) M fullShare R h1 v f
  unfold owns at h
  iapply h
  isplitl [Hs]
  · iexists _
    isplitr
    swap
    · iexact Hs
    · ipureintro
      exact View.read_write_univ _ _
  · iexact Hr

end Cert.KernelIdeal.Ring

end

end
-- ==== Proof.Body.lean ====
/- What each hop needs and leaves. -/
module

public import proofs.«01_k».proof.Proof.Slots

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Links by their half of the body -/

/-- A row below the last, and the one after it. -/
abbrev low (s : Fin 2) : Fin 3 := ⟨s.val, by omega⟩
abbrev next (s : Fin 2) : Fin 3 := ⟨s.val + 1, by omega⟩

/-- A link of rows 0–2, of row 3, of rows 4–5, and of rows 3–5. -/
abbrev lo (s : Fin 3) (j : Fin 4) (d : Fin 2) : Link := (⟨s.val, by omega⟩, j, d)
abbrev hi (t : Fin 3) (j : Fin 4) (d : Fin 2) : Link := (⟨t.val + 3, by omega⟩, j, d)
abbrev up (t : Fin 2) (j : Fin 4) (d : Fin 2) : Link := (⟨t.val + 4, by omega⟩, j, d)

omit [FloatOps F]

theorem srcM_lo (s : Fin 3) (j : Fin 4) (d : Fin 2) : srcM (lo s j d) = slot4 (rsSend d) s j := dif_pos s.isLt
theorem dstM_lo (s : Fin 3) (j : Fin 4) (d : Fin 2) : dstM (lo s j d) = slot4 (rsRecv d) s j := dif_pos s.isLt
theorem srcM_acc (j : Fin 4) (d : Fin 2) : srcM (3, j, d) = slot3 (accM d) j := rfl
theorem dstM_hi (t : Fin 3) (j : Fin 4) (d : Fin 2) : dstM (hi t j d) = slot4 (agRecv d) t j := by
  fin_cases t <;> rfl
theorem srcM_up (t : Fin 2) (j : Fin 4) (d : Fin 2) : srcM (up t j d) = dstM (hi (low t) j d) := by
  fin_cases t <;> rfl

variable [FloatOps F]

theorem msg_zero (j : Fin 4) (d : Fin 2) :
    msg m ρ c (0, j, d) = k0_pay10 (k0_pay1 (w1In m ρ c)) (rows (xIn m ρ c) (rowOff c 0 j d) (rowOff_inb c 0 j d)) := rfl
theorem msg_mid (s : Fin 2) (j : Fin 4) (d : Fin 2) :
    msg m ρ c (lo (next s) j d)
      = addf (rows (prod m ρ c) (rowOff c (next s) j d) (rowOff_inb c (next s) j d)) (got m ρ c (lo (low s) j d)) := by
  unfold msg got msg
  show msgs m ρ (s.val + 1) c j d = _
  rw [msgs, dif_pos (show s.val + 1 < 3 by omega)]
theorem msg_acc (j : Fin 4) (d : Fin 2) :
    msg m ρ c (3, j, d) = addf (rows (prod m ρ c) (ownOff c j d) (ownOff_inb c j d)) (got m ρ c (2, j, d)) := by
  unfold msg got msg
  show msgs m ρ (2 + 1) c j d = _
  rw [msgs, dif_neg (by decide), if_pos rfl]; rfl
theorem msg_up (t : Fin 2) (j : Fin 4) (d : Fin 2) : msg m ρ c (up t j d) = got m ρ c (hi (low t) j d) := by
  unfold msg got msg
  show msgs m ρ (t.val + 3 + 1) c j d = _
  rw [msgs, dif_neg (by omega), if_neg (by omega)]

theorem srcAny_lo (s : Fin 3) (j : Fin 4) (d : Fin 2) : srcAny (F := F) c (lo s j d) = anyAt c (slot4 (rsSend d) s j) fullShare := by
  unfold srcAny anyAt; rw [srcM_lo]
theorem srcPt_lo (q : PosShare TreeShare) (s : Fin 3) (j : Fin 4) (d : Fin 2) :
    srcPt m ρ q c (lo s j d) = owns (c : Thread nD τ) (slot4 (rsSend d) s j) q (msg m ρ c (lo s j d)) := by
  unfold srcPt; rw [srcM_lo]
theorem dstPt_lo (q : PosShare TreeShare) (s : Fin 3) (j : Fin 4) (d : Fin 2) :
    dstPt m ρ q c (lo s j d) = owns (c : Thread nD τ) (slot4 (rsRecv d) s j) q (got m ρ c (lo s j d)) := by
  unfold dstPt; rw [dstM_lo]
theorem dstPt_hi (q : PosShare TreeShare) (t : Fin 3) (j : Fin 4) (d : Fin 2) :
    dstPt m ρ q c (hi t j d) = owns (c : Thread nD τ) (slot4 (agRecv d) t j) q (got m ρ c (hi t j d)) := by
  unfold dstPt; rw [dstM_hi]
theorem srcAny_zero (j : Fin 4) (d : Fin 2) : srcAny (F := F) c (0, j, d) = anyAt c (slot4 (rsSend d) 0 j) fullShare := srcAny_lo c 0 j d
theorem dstPt_two (q : PosShare TreeShare) (j : Fin 4) (d : Fin 2) :
    dstPt m ρ q c (2, j, d) = owns (c : Thread nD τ) (slot4 (rsRecv d) 2 j) q (got m ρ c (2, j, d)) := dstPt_lo m ρ c q 2 j d
theorem srcAny_acc (j : Fin 4) (d : Fin 2) : srcAny (F := F) c (3, j, d) = anyAt c (slot3 (accM d) j) fullShare := rfl
theorem srcPt_acc (q : PosShare TreeShare) (j : Fin 4) (d : Fin 2) :
    srcPt m ρ q c (3, j, d) = owns (c : Thread nD τ) (slot3 (accM d) j) q (msg m ρ c (3, j, d)) := rfl

/-- A gathered block goes on from where it landed. -/
theorem srcPt_up (q : PosShare TreeShare) (t : Fin 2) (j : Fin 4) (d : Fin 2) :
    srcPt m ρ q c (up t j d) = dstPt m ρ q c (hi (low t) j d) := by
  unfold srcPt dstPt; rw [srcM_up, msg_up]

theorem srcPt_halves (ℓ : Link) : srcPt m ρ fullShare c ℓ ⊢ iprop(srcPt m ρ fullShare.left c ℓ ∗ srcPt m ρ fullShare.right c ℓ) :=
  (owns_halves _ _ _ _).1
theorem dstPt_halves (ℓ : Link) : dstPt m ρ fullShare c ℓ ⊢ iprop(dstPt m ρ fullShare.left c ℓ ∗ dstPt m ρ fullShare.right c ℓ) :=
  (owns_halves _ _ _ _).1

/-! ## The reduction -/

/-- What goes along the first row, and along the later ones. -/
def alongX (k : ℕ) : sProp 𝕄 := iprop(known m ρ K ∗ debt c k ∗ owns (c : Thread nD τ) xM fullShare (xIn m ρ c))
def alongH (k : ℕ) : sProp 𝕄 := iprop(known m ρ K ∗ debt c k ∗ owns (c : Thread nD τ) hM fullShare (prod m ρ c))

/-- A link sent, half of its source kept. -/
def Sent (ℓ : Link) : sProp 𝕄 := iprop(Away c ℓ ∗ srcPt m ρ fullShare.right c ℓ)
/-- A link received. -/
def Here (ℓ : Link) : sProp 𝕄 := iprop(semVal (rCell c ℓ) 0 ∗ dstPt m ρ fullShare c ℓ)

theorem runs_first (j : Fin 4) (d : Fin 2) (k : ℕ) (hk : k = ix (0, j, d)) :
    iprop(alongX m ρ K c k ∗ Ready c (0, j, d) ∗ srcAny c (0, j, d))
      ⊢ runs c (firstHop c (k0_pay1 (w1In m ρ c)) j d) (fun _ => iprop(alongX m ρ K c (k + 1) ∗ Sent m ρ c (0, j, d))) := by
  unfold alongX firstHop
  iintro ⟨⟨#HK, HO, Hx⟩, HR, Hs⟩
  iapply (runs_use (runs_load c xM fullShare (rowRect c 0 j d) _ (xIn m ρ c))) $$ Hx
  iintro %v ⟨%hv, Hx⟩
  ihave Hs := (Entails.of_eq (srcAny_zero (F := F) c j d)) $$ Hs
  iapply (runs_use (runs_load_any c (rsSend d) fullShare (rect4 0 j) (fun _ => rfl) squeezes_S1x1x64x512_S64x512 (View.loadsAt_vmem h_S1x1x64x512))) $$ Hs
  iintro %_ Hs
  iapply (runs_use (runs_store_slot c (rsSend d) (rect4 0 j) (fun _ => rfl) squeezes_S1x1x64x512_S64x512 _ _ _ shapeCasts_S1x1x64x512_S64x512)) $$ Hs
  iintro %_ Hs
  ihave Hs := (Entails.of_eq (show owns (c : Thread nD τ) (slot4 (rsSend d) 0 j) fullShare
      (shapeCast S64x512 (k0_pay4 (k0_pay1 (w1In m ρ c)) v) shapeCasts_S1x1x64x512_S64x512) = srcPt m ρ fullShare c (0, j, d) from by
    rw [show shapeCast S64x512 (k0_pay4 (k0_pay1 (w1In m ρ c)) v) shapeCasts_S1x1x64x512_S64x512 = msg m ρ c (0, j, d) from by
      subst hv; exact shapeCast_shapeCast _ _ _]
    exact (srcPt_lo m ρ c fullShare 0 j d).symm)) $$ Hs
  ihave Hs := (srcPt_halves m ρ c (0, j, d)) $$ Hs
  icases Hs with ⟨HL, HRt⟩
  iapply (runs_last (runs_send m ρ K c (0, j, d) k hk)) $$ [HO HR HL]
  · isplitr; · iexact HK
    isplitl [HO]; · iexact HO
    isplitl [HL] <;> iassumption
  iintro %_ ⟨HO, HA⟩
  isplitl [HO Hx]
  · isplitr; · iexact HK
    isplitl [HO] <;> iassumption
  unfold Sent
  isplitl [HA] <;> iassumption

theorem runs_mid (s : Fin 2) (j : Fin 4) (d : Fin 2) (k : ℕ) (hk : k = ix (lo (next s) j d)) :
    iprop(alongH m ρ K c k ∗ (Due c (lo (low s) j d) ∗ Ready c (lo (next s) j d) ∗ srcAny c (lo (next s) j d)))
      ⊢ runs c (midHop c s j d) (fun _ => iprop(alongH m ρ K c (k + 1)
          ∗ (Here m ρ c (lo (low s) j d) ∗ Sent m ρ c (lo (next s) j d)))) := by
  unfold alongH midHop
  iintro ⟨⟨#HK, HO, Hh⟩, HD, HR, Hs⟩
  iapply (runs_use (runs_recv m ρ K c (lo (low s) j d) k (by subst hk; simp only [ix]; omega))) $$ [HO HD]
  · isplitr; · iexact HK
    isplitl [HO] <;> iassumption
  iintro %_ ⟨HO, Hz, Hg⟩
  iapply (runs_use (runs_load c hM fullShare (rowRect c (next s) j d) _ (prod m ρ c))) $$ Hh
  iintro %v ⟨%hv, Hh⟩
  ihave Hg := (Entails.of_eq (dstPt_lo m ρ c fullShare (low s) j d)) $$ Hg
  iapply (runs_use (runs_load_slot c (rsRecv d) fullShare (rect4 (low s) j) (fun _ => rfl) squeezes_S1x1x64x512_S64x512
    (View.loadsAt_vmem h_S1x1x64x512) _ shapeCasts_S1x1x64x512_S64x512)) $$ Hg
  iintro %u ⟨%hu, Hg⟩
  ihave Hs := (Entails.of_eq (srcAny_lo (F := F) c (next s) j d)) $$ Hs
  iapply (runs_use (runs_load_any c (rsSend d) fullShare (rect4 (next s) j) (fun _ => rfl) squeezes_S1x1x64x512_S64x512 (View.loadsAt_vmem h_S1x1x64x512))) $$ Hs
  iintro %_ Hs
  iapply (runs_use (runs_store_slot c (rsSend d) (rect4 (next s) j) (fun _ => rfl) squeezes_S1x1x64x512_S64x512 _ _ _ shapeCasts_S1x1x64x512_S64x512)) $$ Hs
  iintro %_ Hs
  ihave Hs := (Entails.of_eq (show owns (c : Thread nD τ) (slot4 (rsSend d) (next s) j) fullShare
      (shapeCast S64x512 (k0_pay13 v u) shapeCasts_S1x1x64x512_S64x512) = srcPt m ρ fullShare c (lo (next s) j d) from by
    rw [show shapeCast S64x512 (k0_pay13 v u) shapeCasts_S1x1x64x512_S64x512 = msg m ρ c (lo (next s) j d) from by
      rw [msg_mid, ← hu]; subst hv; exact shapeCast_shapeCast _ _ _]
    exact (srcPt_lo m ρ c fullShare (next s) j d).symm)) $$ Hs
  ihave Hs := (srcPt_halves m ρ c _) $$ Hs
  icases Hs with ⟨HL, HRt⟩
  iapply (runs_last (runs_send m ρ K c (lo (next s) j d) k hk)) $$ [HO HR HL]
  · isplitr; · iexact HK
    isplitl [HO]; · iexact HO
    isplitl [HL] <;> iassumption
  iintro %_ ⟨HO, HA⟩
  isplitl [HO Hh]
  · isplitr; · iexact HK
    isplitl [HO] <;> iassumption
  unfold Sent Here
  isplitl [Hz Hg]
  · isplitl [Hz]; · iexact Hz
    rw [dstPt_lo]; iexact Hg
  isplitl [HA] <;> iassumption

theorem runs_acc (j : Fin 4) (d : Fin 2) (k : ℕ) (hk : k = ix (3, j, d)) :
    iprop(alongH m ρ K c k ∗ (Due c (2, j, d) ∗ Ready c (3, j, d) ∗ srcAny c (3, j, d)))
      ⊢ runs c (accHop c j d) (fun _ => iprop(alongH m ρ K c (k + 1) ∗ (Here m ρ c (2, j, d) ∗ Sent m ρ c (3, j, d)))) := by
  unfold alongH accHop
  iintro ⟨⟨#HK, HO, Hh⟩, HD, HR, Hs⟩
  iapply (runs_use (runs_recv m ρ K c (2, j, d) k (by subst hk; simp only [ix]; show 8 * 2 + _ + _ < 8 * 3 + _ + _; omega))) $$ [HO HD]
  · isplitr; · iexact HK
    isplitl [HO] <;> iassumption
  iintro %_ ⟨HO, Hz, Hg⟩
  iapply (runs_use (runs_load c hM fullShare (ownRect c j d) _ (prod m ρ c))) $$ Hh
  iintro %v ⟨%hv, Hh⟩
  ihave Hg := (Entails.of_eq (dstPt_two m ρ c fullShare j d)) $$ Hg
  ihave Hs := (Entails.of_eq (srcAny_acc (F := F) c j d)) $$ Hs
  iapply (runs_use (runs_load_slot c (rsRecv d) fullShare (rect4 2 j) (fun _ => rfl) squeezes_S1x1x64x512_S64x512
    (View.loadsAt_vmem h_S1x1x64x512) (got m ρ c (2, j, d)) shapeCasts_S1x1x64x512_S64x512)) $$ Hg
  iintro %u ⟨%hu, Hg⟩
  iapply (runs_use (runs_load_any c (accM d) fullShare (rect3 j) (fun _ => rfl) squeezes_S1x64x512_S64x512 (View.loadsAt_vmem h_S1x64x512))) $$ Hs
  iintro %_ Hs
  iapply (runs_use (runs_store_slot c (accM d) (rect3 j) (fun _ => rfl) squeezes_S1x64x512_S64x512 _ _ _ shapeCasts_S1x64x512_S64x512)) $$ Hs
  iintro %_ Hs
  ihave Hs := (Entails.of_eq (show owns (c : Thread nD τ) (slot3 (accM d) j) fullShare
      (shapeCast S64x512 (k0_pay32 v u) shapeCasts_S1x64x512_S64x512) = srcPt m ρ fullShare c (3, j, d) from by
    rw [show shapeCast S64x512 (k0_pay32 v u) shapeCasts_S1x64x512_S64x512 = msg m ρ c (3, j, d) from by
      rw [msg_acc, ← hu]; subst hv; exact shapeCast_shapeCast _ _ _]
    exact (srcPt_acc m ρ c fullShare j d).symm)) $$ Hs
  ihave Hs := (srcPt_halves m ρ c _) $$ Hs
  icases Hs with ⟨HL, HRt⟩
  iapply (runs_last (runs_send m ρ K c (3, j, d) k hk)) $$ [HO HR HL]
  · isplitr; · iexact HK
    isplitl [HO]; · iexact HO
    isplitl [HL] <;> iassumption
  iintro %_ ⟨HO, HA⟩
  isplitl [HO Hh]
  · isplitr; · iexact HK
    isplitl [HO] <;> iassumption
  unfold Sent Here
  isplitl [Hz Hg]
  · isplitl [Hz]; · iexact Hz
    ihave Hg := (Entails.of_eq (dstPt_two m ρ c fullShare j d).symm) $$ Hg
    iexact Hg
  isplitl [HA] <;> iassumption

/-! ## The gathering -/

/-- What goes along the gathering. -/
def alongG (k : ℕ) : sProp 𝕄 := iprop(known m ρ K ∗ debt c k)

/-- A gathered block received and passed on: half of it kept. -/
def Passed (t : Fin 2) (j : Fin 4) (d : Fin 2) : sProp 𝕄 :=
  iprop(semVal (rCell c (hi (low t) j d)) 0 ∗ dstPt m ρ fullShare.right c (hi (low t) j d) ∗ Away c (up t j d))

theorem runs_pass (t : Fin 2) (j : Fin 4) (k : ℕ) (hk : k = ix (up t j 0)) :
    iprop(alongG m ρ K c k ∗ bigSep Finset.univ fun d => iprop(Due c (hi (low t) j d) ∗ Ready c (up t j d)))
      ⊢ runs c (passHop c t j) (fun _ => iprop(alongG m ρ K c (k + 2) ∗ bigSep Finset.univ fun d => Passed m ρ c t j d)) := by
  rw [bigSep_univ_two, bigSep_univ_two]
  unfold alongG passHop
  iintro ⟨⟨#HK, HO⟩, ⟨HD0, HR0⟩, HD1, HR1⟩
  iapply (runs_use (runs_recv m ρ K c (hi (low t) j 0) k (by subst hk; simp only [ix]; omega))) $$ [HO HD0]
  · isplitr; · iexact HK
    isplitl [HO] <;> iassumption
  iintro %_ ⟨HO, Hz0, Hg0⟩
  iapply (runs_use (runs_recv m ρ K c (hi (low t) j 1) k (by subst hk; simp only [ix]; show _ + 1 < _; simp; omega))) $$ [HO HD1]
  · isplitr; · iexact HK
    isplitl [HO] <;> iassumption
  iintro %_ ⟨HO, Hz1, Hg1⟩
  ihave Hg0 := (dstPt_halves m ρ c _) $$ Hg0
  icases Hg0 with ⟨HL0, Hg0⟩
  ihave HL0 := (Entails.of_eq (srcPt_up m ρ c fullShare.left t j 0).symm) $$ HL0
  ihave Hg1 := (dstPt_halves m ρ c _) $$ Hg1
  icases Hg1 with ⟨HL1, Hg1⟩
  ihave HL1 := (Entails.of_eq (srcPt_up m ρ c fullShare.left t j 1).symm) $$ HL1
  iapply (runs_use (runs_send m ρ K c (up t j 0) k hk)) $$ [HO HR0 HL0]
  · isplitr; · iexact HK
    isplitl [HO]; · iexact HO
    isplitl [HL0] <;> iassumption
  iintro %_ ⟨HO, HA0⟩
  iapply (runs_last (runs_send m ρ K c (up t j 1) (k + 1) (by subst hk; rfl))) $$ [HO HR1 HL1]
  · isplitr; · iexact HK
    isplitl [HO]; · iexact HO
    isplitl [HL1] <;> iassumption
  iintro %_ ⟨HO, HA1⟩
  unfold Passed
  isplitl [HO]
  · isplitr; · iexact HK
    iexact HO
  isplitl [Hz0 Hg0 HA0]
  · isplitl [Hz0]; · iexact Hz0
    isplitl [Hg0] <;> iassumption
  isplitl [Hz1]; · iexact Hz1
  isplitl [Hg1] <;> iassumption

theorem runs_last_hop (j : Fin 4) :
    iprop(alongG m ρ K c 48 ∗ bigSep Finset.univ fun d => Due c (5, j, d))
      ⊢ runs c (lastHop j) (fun _ => iprop(alongG m ρ K c 48 ∗ bigSep Finset.univ fun d => Here m ρ c (5, j, d))) := by
  rw [bigSep_univ_two, bigSep_univ_two]
  unfold alongG lastHop
  iintro ⟨⟨#HK, HO⟩, HD0, HD1⟩
  iapply (runs_use (runs_recv m ρ K c (5, j, 0) 48 (ix_lt _))) $$ [HO HD0]
  · isplitr; · iexact HK
    isplitl [HO] <;> iassumption
  iintro %_ ⟨HO, H0⟩
  iapply (runs_last (runs_recv m ρ K c (5, j, 1) 48 (ix_lt _))) $$ [HO HD1]
  · isplitr; · iexact HK
    isplitl [HO] <;> iassumption
  iintro %_ ⟨HO, H1⟩
  unfold Here
  isplitl [HO]
  · isplitr; · iexact HK
    iexact HO
  isplitl [H0] <;> iassumption

theorem runs_drain (s : Fin 3) (j : Fin 4) :
    iprop(alongG m ρ K c 48 ∗ bigSep Finset.univ fun d => iprop(Away c (lo s j d) ∗ Away c (hi s j d)))
      ⊢ runs c (drain s j) (fun _ => iprop(alongG m ρ K c 48 ∗ bigSep Finset.univ fun d => iprop(Gone m ρ c (lo s j d) ∗ Gone m ρ c (hi s j d)))) := by
  rw [bigSep_univ_two, bigSep_univ_two]
  unfold alongG drain
  iintro ⟨⟨#HK, HO⟩, ⟨HA0, HB0⟩, HA1, HB1⟩
  iapply (runs_use (runs_done m ρ K c (lo s j 0))) $$ [HO HA0]
  · isplitr; · iexact HK
    isplitl [HO] <;> iassumption
  iintro %_ ⟨HO, HA0⟩
  iapply (runs_use (runs_done m ρ K c (lo s j 1))) $$ [HO HA1]
  · isplitr; · iexact HK
    isplitl [HO] <;> iassumption
  iintro %_ ⟨HO, HA1⟩
  iapply (runs_use (runs_done m ρ K c (hi s j 0))) $$ [HO HB0]
  · isplitr; · iexact HK
    isplitl [HO] <;> iassumption
  iintro %_ ⟨HO, HB0⟩
  iapply (runs_last (runs_done m ρ K c (hi s j 1))) $$ [HO HB1]
  · isplitr; · iexact HK
    isplitl [HO] <;> iassumption
  iintro %_ ⟨HO, HB1⟩
  isplitl [HO]
  · isplitr; · iexact HK
    iexact HO
  isplitl [HA0 HB0]
  · isplitl [HA0] <;> iassumption
  isplitl [HA1] <;> iassumption

end Cert.KernelIdeal.Ring

end

end
-- ==== Proof.Outs.lean ====
/- The greeting, the full product, and the blocks of the result. -/
module

public import proofs.«01_k».proof.Proof.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The greeting -/

omit [FloatOps F] in
theorem bigSep_links (Φ : Link → sProp 𝕄) : bigSep Finset.univ Φ = iprop(bigSep (linksOf 0) Φ ∗ bigSep (linksOf 1) Φ) := by
  have h : (Finset.univ.filter fun ℓ : Link => ¬ ℓ.2.2 = 0) = linksOf 1 := by decide
  rw [bigSep_filter_split Finset.univ (fun ℓ : Link => ℓ.2.2 = 0), h]
  rfl

/-- What the device hands its neighbours is every place of its own that a link writes, -/
theorem barPay_out : (bigSep Finset.univ fun ℓ => dstAny (F := F) c ℓ : sProp 𝕄)
    = iprop(barPay (toward c 1) 0 ∗ barPay (toward c 0) 1) := by
  rw [bigSep_links]
  unfold barPay
  rw [show toward (toward c 1) 0 = c from toward_flip c 1, show toward (toward c 0) 1 = c from toward_flip c 0]

/-- and what it gets from them is every place its own links write. -/
theorem barPay_in : (bigSep Finset.univ fun ℓ => dstAny (F := F) (toward c ℓ.2.2) ℓ : sProp 𝕄)
    = iprop(barPay c 0 ∗ barPay c 1) := by
  rw [bigSep_links]
  unfold barPay
  have h (d : Fin 2) : (bigSep (linksOf d) fun ℓ => dstAny (F := F) (toward c ℓ.2.2) ℓ : sProp 𝕄) = bigSep (linksOf d) fun ℓ => dstAny (F := F) (toward c d) ℓ :=
    bigSep_congr fun ℓ hℓ => congrArg (fun e => dstAny (F := F) (toward c e) ℓ) (Finset.mem_filter.mp hℓ).2
  rw [h 0, h 1]

/-- The greeting's tokens, credit and position. -/
def Greet : sProp 𝕄 :=
  iprop(dutyTok ER (barCell (toward c 1)) 0 0 ∗ dutyTok ER (barCell (toward c 0)) 0 1
    ∗ cred (tallyAt (barCell c) () 2) ∗ atPos ER (barCell c) 0 ∅ 0)

theorem runs_greet :
    iprop(known m ρ K ∗ (∃ W, owes (c : Thread nD τ) (owed₀ c) W) ∗ Greet c ∗ bigSep Finset.univ fun ℓ => dstAny (F := F) c ℓ)
      ⊢ runs c (greet (F := F) c) (fun _ => iprop(debt c 0 ∗ semVal (barCell c) 0 ∗ bigSep Finset.univ fun ℓ => dstAny (F := F) (toward c ℓ.2.2) ℓ)) := by
  rw [barPay_out, barPay_in]
  unfold Greet greet debt
  iintro ⟨#HK, ⟨%W, HO⟩, ⟨Ht1, Ht0, Hc, Hat⟩, Hp1, Hp0⟩
  ihave HIa := (known_at m ρ K (toward c 1, none)) $$ HK
  icases HIa with ⟨HI1, Hr1⟩
  ihave HIb := (known_at m ρ K (toward c 0, none)) $$ HK
  icases HIb with ⟨HI0, Hr0⟩
  ihave HIc := (known_at m ρ K (c, none)) $$ HK
  icases HIc with ⟨#HI, -⟩
  unfold owed₀
  iapply (Rounds.wp_signal 𝒱₀ ER (Rd m ρ) (c : Thread nD τ) none (dst := (toward c 1 : Thread nD τ)) (κ := K (toward c 1, none))
      (d := 0) (by rw [duties_bar]; exact Finset.mem_univ _) ((amount_bar m ρ (toward c 1) 0).trans (by decide)) () (owed₁ c) rfl)
    $$ [HI1 HO Ht1 Hp1 Hr1]
  · isplitl [HI1]; · iexact HI1
    isplitl [HO]; · iexact HO
    isplitl [Ht1]; · iexact Ht1
    isplitl [Hp1]; · rw [payload_bar]; iexact Hp1
    iexact Hr1
  iintro HO
  unfold owed₁
  iapply (Rounds.wp_signal 𝒱₀ ER (Rd m ρ) (c : Thread nD τ) none (dst := (toward c 0 : Thread nD τ)) (κ := K (toward c 0, none))
      (d := 1) (by rw [duties_bar]; exact Finset.mem_univ _) ((amount_bar m ρ (toward c 0) 1).trans (by decide)) () (owed c 0) rfl)
    $$ [HI0 HO Ht0 Hp0 Hr0]
  · isplitl [HI0]; · iexact HI0
    isplitl [HO]; · iexact HO
    isplitl [Ht0]; · iexact Ht0
    isplitl [Hp0]; · rw [payload_bar]; iexact Hp0
    iexact Hr0
  iintro HO
  iapply (Rounds.wp_wait_rest_token 𝒱₀ ER (Rd m ρ) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [Hc HO Hat]
  · isplitr; · iexact HI
    isplitl [Hc]; · iexact Hc
    isplitl [HO]; · iexact HO
    isplitr
    · ihave Hl := (known_lev m ρ K) $$ HK
      iapply (mayWait_bar c); iexact Hl
    iexact Hat
  iintro ⟨HO, Hat, -, Hp⟩
  ihave Hp := (Entails.of_eq (rest_bar m ρ c)) $$ Hp
  imod (Rounds.cell_close ER (Rd m ρ) (Set.mem_univ (K (c, none))) (fun h => h) (R := 0 + 1) (duties_later m ρ (barCell c))) $$ [Hat] with Hz
  · isplitr; · iexact HI
    iexact Hat
  iapply (le_wp_ret)
  isplitl [HO]; · iexists _; iexact HO
  isplitl [Hz] <;> iassumption

/-! ## Whole loads and the full product -/

omit [FloatOps F] in
theorem emb_whole {s : Shape} (off : Fin s.rank → Nat) (h : off = fun _ => 0) (inb : ∀ a, off a + s.size a ≤ s.size a) (i : s.Idx) :
    (Rect.unit (s := s) off s.size inb).emb i = i := by
  subst h
  funext a
  refine Fin.ext ?_
  rw [Rect.emb_apply]
  simp

theorem zero2 : (![0, 0] : Fin 2 → Nat) = fun _ => 0 := by funext a; fin_cases a <;> rfl

theorem runs_product :
    iprop(owns (c : Thread nD τ) xM fullShare (xIn m ρ c) ∗ anyAt c hM fullShare)
      ⊢ runs c (fullProduct (k0_pay1 (w1In m ρ c))) (fun _ => iprop(owns (c : Thread nD τ) xM fullShare (xIn m ρ c)
          ∗ owns (c : Thread nD τ) hM fullShare (prod m ρ c))) := by
  unfold fullProduct anyAt
  iintro ⟨Hx, ⟨%f, Hh⟩⟩
  ihave Hh := (owns_intro (c : Thread nD τ) hM fullShare f) $$ Hh
  iapply (runs_use (runs_load c xM fullShare (Rect.unit (s := S2048x512) ![0, 0] S2048x512.size inb_S2048x512_S2048x512_0_0) _ (xIn m ρ c))) $$ Hx
  iintro %v ⟨%hv, Hx⟩
  iapply (runs_use (runs_load c hM fullShare (Rect.unit (s := S2048x512) ![0, 0] S2048x512.size inb_S2048x512_S2048x512_0_0) _ _)) $$ Hh
  iintro %_ ⟨-, Hh⟩
  iapply (runs_last (runs_store_over c hM (Rect.unit (s := S2048x512) ![0, 0] S2048x512.size inb_S2048x512_S2048x512_0_0) (fun _ => rfl) _ _ _ _)) $$ Hh
  iintro %_ Hh
  isplitl [Hx]; · iexact Hx
  rw [show (Rect.unit (s := S2048x512) ![0, 0] S2048x512.size inb_S2048x512_S2048x512_0_0).overlay (hM.view.read (Elt F) f) (k0_pay12 (k0_pay1 (w1In m ρ c)) v)
      = prod m ρ c from by
    funext x
    have hx := emb_whole (s := S2048x512) ![0, 0] zero2 inb_S2048x512_S2048x512_0_0 x
    have hv' : v = xIn m ρ c := by rw [hv]; funext i; rw [emb_whole (s := S2048x512) ![0, 0] zero2 inb_S2048x512_S2048x512_0_0 i]
    have h := Rect.overlay_emb (Rect.unit (s := S2048x512) ![0, 0] S2048x512.size inb_S2048x512_S2048x512_0_0) (hM.view.read (Elt F) f)
      (k0_pay12 (k0_pay1 (w1In m ρ c)) v) x
    rw [hx, hv'] at h
    rw [hv', h]; rfl]
  iexact Hh

end Cert.KernelIdeal.Ring

end

end
-- ==== Proof.Blocks.lean ====
/- The eight blocks of 256 rows the device writes its result in. -/
module

public import proofs.«01_k».proof.Proof.Outs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Where a block lies -/

/-- The first row of block `(r, d)`: of row `r` of the gathering for `r < 3`, the device's own for `r = 3`. -/
def base (r : Fin 4) (d : Fin 2) : ℕ := 512 * (if d = 0 then (c.val + 7 - r.val) % 4 else (c.val + r.val + 1) % 4) + 256 * d.val

/-- The direction and the row whose block an index of the result lies in. -/
def dOf (x : S2048x512.Idx) : Fin 2 := ⟨(x 0).val % 512 / 256, by omega⟩
def rOf (x : S2048x512.Idx) : Fin 4 :=
  if dOf x = 0 then ⟨(c.val + 7 - (x 0).val / 512) % 4, by omega⟩ else ⟨((x 0).val / 512 + 7 - c.val) % 4, by omega⟩

omit [FloatOps F] in
theorem base_iff (r : Fin 4) (d : Fin 2) (x : S2048x512.Idx) :
    (base c r d ≤ (x 0).val ∧ (x 0).val < base c r d + 256) ↔ (rOf c x = r ∧ dOf x = d) := by
  have hx : (x 0).val < 2048 := (x 0).isLt
  have hc : c.val < 4 := c.isLt
  obtain ⟨r, hr⟩ := r
  obtain ⟨d, hd⟩ := d
  unfold base rOf
  by_cases h0 : dOf x = 0
  · rw [if_pos h0]
    unfold dOf at h0 ⊢
    simp only [Fin.mk.injEq, Fin.ext_iff, Fin.val_zero] at h0 ⊢
    by_cases hd0 : d = 0
    · subst hd0
      rw [if_pos rfl]
      omega
    · rw [if_neg hd0]
      omega
  · rw [if_neg h0]
    unfold dOf at h0 ⊢
    simp only [Fin.mk.injEq, Fin.ext_iff, Fin.val_zero] at h0 ⊢
    by_cases hd0 : d = 0
    · subst hd0
      rw [if_pos rfl]
      omega
    · rw [if_neg hd0]
      omega

omit [FloatOps F] in
theorem outOwn_eq (d : Fin 2) : outOwn c d = ![base c 3 d, 0] := by
  have hc : c.val < 4 := c.isLt
  fin_cases d
  · show k0_off5 c = _
    rw [k0_off5_eq]
    congr 1
    unfold base; simp; omega
  · show k0_off6 c = _
    rw [k0_off6_eq]
    congr 1
    unfold base; simp; omega
omit [FloatOps F] in
theorem outOff_eq (t : Fin 3) (d : Fin 2) : outOff c t d = ![base c ⟨t.val, by omega⟩ d, 0] := by
  have hc : c.val < 4 := c.isLt
  fin_cases d
  · show k0_off7 c _ = _
    rw [k0_off7_eq]
    congr 1
  · show k0_off8 c _ = _
    rw [k0_off8_eq]
    congr 1

/-! ## What a block holds -/

/-- The device's own finished rows, and the rows gathered in row `t`, as the buffers hold them. -/
def ownRows (d : Fin 2) : Vec F S4x64x512 .bf16 := fun x => msg m ρ c (3, x 0, d) (ix2 (x 1) (x 2))
def gatheredAt (t : Fin 3) (d : Fin 2) : Vec F S3x4x64x512 .bf16 := fun x => got m ρ c (hi t (x 1) d) (ix2 (x 2) (x 3))
def gathered (t : Fin 3) (d : Fin 2) : Vec F S1x4x64x512 .bf16 := fun x => got m ρ c (hi t (x 1) d) (ix2 (x 2) (x 3))

/-- Block `(r, d)`: those rows times the device's columns of the second matrix. -/
def blockOf (r : Fin 4) (d : Fin 2) : Vec F S256x512 .f32 :=
  if h : r.val < 3 then k0_pay44 (k0_pay41 (w2In m ρ c)) (gathered m ρ c ⟨r.val, h⟩ d)
  else k0_pay43 (k0_pay41 (w2In m ρ c)) (ownRows m ρ c d)

/-- The device's result. -/
def res : Vec F S2048x512 .f32 := fun x => blockOf m ρ c (rOf c x) (dOf x) (ix2 ⟨(x 0).val % 256, by omega⟩ (x 1))

/-- The order the blocks are written in. -/
def ord (r : Fin 4) (d : Fin 2) : ℕ := 2 * ((r.val + 1) % 4) + d.val
omit [FloatOps F] in
theorem ord_injective {r r' : Fin 4} {d d' : Fin 2} (h : ord r d = ord r' d') : r = r' ∧ d = d' := by
  revert r r' d d'; decide

/-- The result with its first `k` blocks written. -/
def Out (k : ℕ) : sProp 𝕄 :=
  iprop(∃ Y, ⌜∀ x, ord (rOf c x) (dOf x) < k → Y x = res m ρ c x⌝ ∗ owns (c : Thread nD τ) outM fullShare Y)

theorem out_start : anyAt c outM fullShare ⊢ Out m ρ c 0 := by
  unfold anyAt Out
  iintro ⟨%f, H⟩
  iexists (outM.view.read (Elt F) f)
  isplitr
  · ipureintro; intro x h; exact absurd h (Nat.not_lt_zero _)
  · iapply (owns_intro (c : Thread nD τ) outM fullShare f) $$ H

theorem out_end : Out m ρ c 8 ⊢ owns (c : Thread nD τ) outM fullShare (res m ρ c) := by
  unfold Out
  iintro ⟨%Y, %hY, H⟩
  rw [show Y = res m ρ c from funext fun x => hY x (by
    have h1 := (rOf c x).isLt
    have h2 := (dOf x).isLt
    unfold ord; omega)]
  iexact H

/-- Writing the next block. -/
theorem runs_put (r : Fin 4) (d : Fin 2) (off : Fin 2 → ℕ) (inb : ∀ a, off a + S256x512.size a ≤ S2048x512.size a) (hoff : off = ![base c r d, 0])
    (v : Vec F S256x512 .f32) (hv : v = blockOf m ρ c r d) (hl) (hx) (hm) :
    Out m ρ c (ord r d) ⊢ runs c (do
        let _ ← Prog.lift (.load outM (Rect.unit (s := S2048x512) off S256x512.size inb).toLoadRect hl)
        Prog.lift (.store outM (Rect.unit (s := S2048x512) off S256x512.size inb) v Finset.univ hx hm))
      (fun _ => Out m ρ c (ord r d + 1)) := by
  unfold Out
  iintro ⟨%Y, %hY, H⟩
  iapply (runs_use (runs_load c outM fullShare (Rect.unit (s := S2048x512) off S256x512.size inb) hl Y)) $$ H
  iintro %_ ⟨-, H⟩
  iapply (runs_last (runs_store_over c outM (Rect.unit (s := S2048x512) off S256x512.size inb) (fun _ => rfl) v hx hm Y)) $$ H
  iintro %_ H
  iexists _
  isplitr
  swap
  · iexact H
  ipureintro
  intro x hxo
  have hmem : x ∈ (Rect.unit (s := S2048x512) off S256x512.size inb).set ↔ (rOf c x = r ∧ dOf x = d) := by
    rw [← base_iff, Rect.mem_set_unit, Fin.forall_fin_two]
    subst hoff
    have hx1 : (x 1).val < 512 := (x 1).isLt
    constructor
    · exact fun h => h.1
    · exact fun h => ⟨h, Nat.zero_le _, by show _ < 0 + 512; omega⟩
  by_cases h : x ∈ (Rect.unit (s := S2048x512) off S256x512.size inb).set
  · obtain ⟨hr, hd⟩ := hmem.mp h
    obtain ⟨i, rfl⟩ := (Rect.unit (s := S2048x512) off S256x512.size inb).exists_idx_of_mem h
    refine (Rect.overlay_emb _ Y v i).trans ?_
    unfold res
    rw [hr, hd, hv]
    refine congrArg _ ?_
    have hi0 : (i 0).val < 256 := (i 0).isLt
    funext a
    refine Fin.ext ?_
    subst hoff
    match a with
    | ⟨0, _⟩ =>
      show (i 0).val = (base c r d + 1 * (i 0).val) % 256
      unfold base
      omega
    | ⟨1, _⟩ =>
      show (i 1).val = 0 + 1 * (i 1).val
      omega
  · rw [Rect.overlay_of_not_mem _ _ _ h]
    refine hY x ?_
    rcases Nat.lt_or_ge (ord (rOf c x) (dOf x)) (ord r d) with h' | h'
    · exact h'
    · exact absurd (hmem.mpr (ord_injective (Nat.le_antisymm (by omega) h'))) h

/-! ## The rows read back -/

omit [FloatOps F] in
theorem rect4_emb (t : Fin 3) (j : Fin 4) (i : S64x512.Idx) :
    (rect4 t j).emb (Shape.reshapeEquiv squeezes_S1x1x64x512_S64x512.numel_eq i) = (ix4 t j (i 0) (i 1) : S3x4x64x512.Idx) := by
  obtain ⟨a, b, rfl⟩ : ∃ (a : Fin 64) (b : Fin 512), i = (ix2 a b : S64x512.Idx) := ⟨i 0, i 1, eq_ix2 i⟩
  have h : (Shape.reshapeEquiv squeezes_S1x1x64x512_S64x512.numel_eq (ix2 a b : S64x512.Idx)) = ix4 (⟨0, Nat.one_pos⟩ : Fin 1) (⟨0, Nat.one_pos⟩ : Fin 1) a b :=
    reshapeEquiv_ix2_11ab _ _ _
  refine (congrArg _ h).trans ?_
  funext e
  refine Fin.ext ?_
  rw [Rect.emb_apply]
  match e with
  | ⟨0, _⟩ => rfl
  | ⟨1, _⟩ => rfl
  | ⟨2, _⟩ => show 0 + 1 * a.val = a.val; omega
  | ⟨3, _⟩ => show 0 + 1 * b.val = b.val; omega
omit [FloatOps F] in
theorem rect3_emb (j : Fin 4) (i : S64x512.Idx) :
    (rect3 j).emb (Shape.reshapeEquiv squeezes_S1x64x512_S64x512.numel_eq i) = (ix3 j (i 0) (i 1) : S4x64x512.Idx) := by
  obtain ⟨a, b, rfl⟩ : ∃ (a : Fin 64) (b : Fin 512), i = (ix2 a b : S64x512.Idx) := ⟨i 0, i 1, eq_ix2 i⟩
  have h : (Shape.reshapeEquiv squeezes_S1x64x512_S64x512.numel_eq (ix2 a b : S64x512.Idx)) = ix3 (⟨0, Nat.one_pos⟩ : Fin 1) a b :=
    reshapeEquiv_ix2_1ab _ _ _
  refine (congrArg _ h).trans ?_
  funext e
  refine Fin.ext ?_
  rw [Rect.emb_apply]
  match e with
  | ⟨0, _⟩ => rfl
  | ⟨1, _⟩ => show 0 + 1 * a.val = a.val; omega
  | ⟨2, _⟩ => show 0 + 1 * b.val = b.val; omega

omit [FloatOps F] in
theorem mem_rect4 (t : Fin 3) (j : Fin 4) (x : S3x4x64x512.Idx) : x ∈ (rect4 t j).set ↔ x 0 = t ∧ x 1 = j := by
  rw [Rect.mem_set_unit]
  have h2 : (x 2).val < 64 := (x 2).isLt
  have h3 : (x 3).val < 512 := (x 3).isLt
  constructor
  · intro h
    have h0 : t.val ≤ (x 0).val ∧ (x 0).val < t.val + 1 := h 0
    have h1 : j.val ≤ (x 1).val ∧ (x 1).val < j.val + 1 := h 1
    exact ⟨Fin.ext (by omega), Fin.ext (by omega)⟩
  · rintro ⟨h0, h1⟩ a
    have h0 : (x 0).val = t.val := congrArg Fin.val h0
    have h1 : (x 1).val = j.val := congrArg Fin.val h1
    match a with
    | ⟨0, _⟩ => show t.val ≤ (x 0).val ∧ (x 0).val < t.val + 1; omega
    | ⟨1, _⟩ => show j.val ≤ (x 1).val ∧ (x 1).val < j.val + 1; omega
    | ⟨2, _⟩ => show 0 ≤ (x 2).val ∧ (x 2).val < 0 + 64; omega
    | ⟨3, _⟩ => show 0 ≤ (x 3).val ∧ (x 3).val < 0 + 512; omega
omit [FloatOps F] in
theorem mem_rect3 (j : Fin 4) (x : S4x64x512.Idx) : x ∈ (rect3 j).set ↔ x 0 = j := by
  rw [Rect.mem_set_unit]
  have h2 : (x 1).val < 64 := (x 1).isLt
  have h3 : (x 2).val < 512 := (x 2).isLt
  constructor
  · intro h
    have h0 : j.val ≤ (x 0).val ∧ (x 0).val < j.val + 1 := h 0
    exact Fin.ext (by omega)
  · intro h0 a
    have h0 : (x 0).val = j.val := congrArg Fin.val h0
    match a with
    | ⟨0, _⟩ => show j.val ≤ (x 0).val ∧ (x 0).val < j.val + 1; omega
    | ⟨1, _⟩ => show 0 ≤ (x 1).val ∧ (x 1).val < 0 + 64; omega
    | ⟨2, _⟩ => show 0 ≤ (x 2).val ∧ (x 2).val < 0 + 512; omega
omit [FloatOps F] in
theorem mem_quad (t : Fin 3) (x : S3x4x64x512.Idx) : x ∈ (quadRect t).set ↔ x 0 = t := by
  rw [Rect.mem_set_unit]
  have h1 : (x 1).val < 4 := (x 1).isLt
  have h2 : (x 2).val < 64 := (x 2).isLt
  have h3 : (x 3).val < 512 := (x 3).isLt
  constructor
  · intro h
    have h0 : t.val ≤ (x 0).val ∧ (x 0).val < t.val + 1 := h 0
    exact Fin.ext (by omega)
  · intro h0 a
    have h0 : (x 0).val = t.val := congrArg Fin.val h0
    match a with
    | ⟨0, _⟩ => show t.val ≤ (x 0).val ∧ (x 0).val < t.val + 1; omega
    | ⟨1, _⟩ => show 0 ≤ (x 1).val ∧ (x 1).val < 0 + 4; omega
    | ⟨2, _⟩ => show 0 ≤ (x 2).val ∧ (x 2).val < 0 + 64; omega
    | ⟨3, _⟩ => show 0 ≤ (x 3).val ∧ (x 3).val < 0 + 512; omega

omit [FloatOps F] in
theorem rect4_disjoint {t t' : Fin 3} {j j' : Fin 4} (h : t ≠ t' ∨ j ≠ j') : Disjoint (rect4 t j).set (rect4 t' j').set := by
  refine Finset.disjoint_left.mpr fun x hx hx' => ?_
  obtain ⟨h0, h1⟩ := (mem_rect4 t j x).mp hx
  obtain ⟨h0', h1'⟩ := (mem_rect4 t' j' x).mp hx'
  rcases h with h | h
  · exact h (h0.symm.trans h0')
  · exact h (h1.symm.trans h1')
omit [FloatOps F] in
theorem rect3_disjoint {j j' : Fin 4} (h : j ≠ j') : Disjoint (rect3 j).set (rect3 j').set :=
  Finset.disjoint_left.mpr fun x hx hx' => h (((mem_rect3 j x).mp hx).symm.trans ((mem_rect3 j' x).mp hx'))
omit [FloatOps F] in
theorem quad_cover (t : Fin 3) : (Finset.univ : Finset (Fin 4)).biUnion (fun j => (rect4 t j).set) = (quadRect t).set := by
  ext x
  simp only [Finset.mem_biUnion, Finset.mem_univ, true_and, mem_rect4, mem_quad]
  exact ⟨fun ⟨_, h, _⟩ => h, fun h => ⟨x 1, h, rfl⟩⟩
omit [FloatOps F] in
theorem cover4 : (Finset.univ : Finset (Fin 3 × Fin 4)).biUnion (fun t => (rect4 t.1 t.2).set) = Finset.univ := by
  ext x
  simp only [Finset.mem_biUnion, Finset.mem_univ, true_and, mem_rect4, iff_true]
  exact ⟨(x 0, x 1), rfl, rfl⟩
omit [FloatOps F] in
theorem cover3 : (Finset.univ : Finset (Fin 4)).biUnion (fun j => (rect3 j).set) = Finset.univ := by
  ext x
  simp only [Finset.mem_biUnion, Finset.mem_univ, true_and, mem_rect3, iff_true]
  exact ⟨x 0, rfl⟩

/-- Row `t` among the four. -/
abbrev asRow (t : Fin 3) : Fin 4 := ⟨t.val, by omega⟩

/-- Writing the rows a row of the gathering brought. -/
theorem runs_gather (q : PosShare TreeShare) (t : Fin 3) (d : Fin 2) :
    iprop(Out m ρ c (ord (asRow t) d) ∗ bigSep Finset.univ fun j => dstPt m ρ q c (hi t j d))
      ⊢ runs c (gatherOut c (k0_pay41 (w2In m ρ c)) t d) (fun _ => iprop(Out m ρ c (ord (asRow t) d + 1)
          ∗ bigSep Finset.univ fun j => dstPt m ρ q c (hi t j d))) := by
  have e : (bigSep Finset.univ fun j => dstPt m ρ q c (hi t j d))
      = bigSep Finset.univ fun j => (owns (c : Thread nD τ) (slotOf (agRecv d) (rect4 t j) (fun _ => rfl) squeezes_S1x1x64x512_S64x512) q
          (fun i => gatheredAt m ρ c t d ((rect4 t j).emb (Shape.reshapeEquiv squeezes_S1x1x64x512_S64x512.numel_eq i))) : sProp 𝕄) :=
    bigSep_congr fun j _ => by
      rw [dstPt_hi]
      refine congrArg _ (funext fun i => ?_)
      rw [rect4_emb]
      exact congrArg (got m ρ c (hi t j d)) (eq_ix2 i)
  rw [e]
  unfold gatherOut
  iintro ⟨HO, H⟩
  iapply (runs_use (runs_load_run c (agRecv d) q (fun j => rect4 t j) (fun _ _ => rfl) (fun _ => squeezes_S1x1x64x512_S64x512)
    (fun j j' h => rect4_disjoint (.inr h)) (quadRect t) (quad_cover t) _ (gatheredAt m ρ c t d))) $$ H
  iintro %v ⟨%hv, H⟩
  iapply (runs_last (runs_put m ρ c (asRow t) d (outOff c t d) (outOff_inb c t d) (outOff_eq c t d) (k0_pay44 (k0_pay41 (w2In m ρ c)) v) (by
    unfold blockOf
    rw [dif_pos t.isLt]
    refine congrArg _ ?_
    rw [hv]
    funext i
    unfold gatheredAt gathered
    rw [show ((quadRect t).emb i) 1 = i 1 from Fin.ext (by show 0 + 1 * (i 1).val = _; omega),
      show ((quadRect t).emb i) 2 = i 2 from Fin.ext (by show 0 + 1 * (i 2).val = _; omega),
      show ((quadRect t).emb i) 3 = i 3 from Fin.ext (by show 0 + 1 * (i 3).val = _; omega)]) _ _ _)) $$ HO
  iintro %_ HO
  isplitl [HO] <;> iassumption

/-- Writing the device's own rows. -/
theorem runs_own (q : PosShare TreeShare) (d : Fin 2) :
    iprop(Out m ρ c (ord 3 d) ∗ bigSep Finset.univ fun j => srcPt m ρ q c (3, j, d))
      ⊢ runs c (ownOut c (k0_pay41 (w2In m ρ c)) d) (fun _ => iprop(Out m ρ c (ord 3 d + 1)
          ∗ bigSep Finset.univ fun j => srcPt m ρ q c (3, j, d))) := by
  have e : (bigSep Finset.univ fun j => srcPt m ρ q c (3, j, d))
      = bigSep Finset.univ fun j => (owns (c : Thread nD τ) (slotOf (accM d) (rect3 j) (fun _ => rfl) squeezes_S1x64x512_S64x512) q
          (fun i => ownRows m ρ c d ((rect3 j).emb (Shape.reshapeEquiv squeezes_S1x64x512_S64x512.numel_eq i))) : sProp 𝕄) :=
    bigSep_congr fun j _ => by
      rw [srcPt_acc]
      refine congrArg _ (funext fun i => ?_)
      rw [rect3_emb]
      exact congrArg (msg m ρ c (3, j, d)) (eq_ix2 i)
  rw [e]
  unfold ownOut
  have hz : (![0, 0, 0] : Fin 3 → ℕ) = fun _ => 0 := by funext a; fin_cases a <;> rfl
  iintro ⟨HO, H⟩
  iapply (runs_use (runs_load_run c (accM d) q (fun j => rect3 j) (fun _ _ => rfl) (fun _ => squeezes_S1x64x512_S64x512)
    (fun j j' h => rect3_disjoint h) (Rect.unit (s := S4x64x512) ![0, 0, 0] S4x64x512.size inb_S4x64x512_S4x64x512_0_0_0)
    (cover3.trans (by
      ext x
      refine ⟨fun _ => ?_, fun _ => Finset.mem_univ _⟩
      rw [← emb_whole (s := S4x64x512) ![0, 0, 0] hz inb_S4x64x512_S4x64x512_0_0_0 x, ← Rect.map_emb_univ]
      exact Finset.mem_map_of_mem _ (Finset.mem_univ _))) _ (ownRows m ρ c d))) $$ H
  iintro %v ⟨%hv, H⟩
  iapply (runs_last (runs_put m ρ c 3 d (outOwn c d) (outOwn_inb c d) (outOwn_eq c d) (k0_pay43 (k0_pay41 (w2In m ρ c)) v) (by
    unfold blockOf
    rw [dif_neg (by decide)]
    refine congrArg _ ?_
    rw [hv]
    funext i
    rw [emb_whole (s := S4x64x512) ![0, 0, 0] hz inb_S4x64x512_S4x64x512_0_0_0 i]) _ _ _)) $$ HO
  iintro %_ HO
  isplitl [HO] <;> iassumption

end Cert.KernelIdeal.Ring

end

end
-- ==== Proof.Whole.lean ====
/- The whole body, row of links by row of links. -/
module

public import proofs.«01_k».proof.Proof.Blocks

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## Rows of links -/

omit [FloatOps F] in
theorem bigSep_fin_six (A : Fin 6 → sProp 𝕄) : bigSep Finset.univ A = iprop(A 0 ∗ A 1 ∗ A 2 ∗ A 3 ∗ A 4 ∗ A 5) := by
  rw [show (Finset.univ : Finset (Fin 6)) = {0, 1, 2, 3, 4, 5} from rfl, bigSep_insert (by decide), bigSep_insert (by decide),
    bigSep_insert (by decide), bigSep_insert (by decide), bigSep_insert (by decide), bigSep_singleton]
  rfl

/-- Row `r` of a family over the links. -/
abbrev row (r : Fin 6) (A : Link → sProp 𝕄) : sProp 𝕄 := each fun j d => A (r, j, d)

omit [FloatOps F] in
theorem by_rows (A : Link → sProp 𝕄) :
    bigSep Finset.univ A = iprop(row 0 A ∗ row 1 A ∗ row 2 A ∗ row 3 A ∗ row 4 A ∗ row 5 A) := by
  rw [bigSep_univ_prod, bigSep_fin_six]
  simp only [bigSep_univ_prod]

omit [FloatOps F] in
theorem each_sep (A B : Fin 4 → Fin 2 → sProp 𝕄) : each (fun j d => iprop(A j d ∗ B j d)) = iprop(each A ∗ each B) := by
  unfold each
  simp only [bigSep_sep']

omit [FloatOps F] in
theorem each_mono {A B : Fin 4 → Fin 2 → sProp 𝕄} (h : ∀ j d, A j d ⊢ B j d) : each A ⊢ each B :=
  bigSep_mono fun j _ => bigSep_mono fun d _ => h j d

/-! ## The rows, run -/

theorem run_first : iprop(alongX m ρ K c 0 ∗ each fun j d => iprop(Ready c (0, j, d) ∗ srcAny c (0, j, d)))
    ⊢ runs c (four fun j => both fun d => firstHop c (k0_pay1 (w1In m ρ c)) j d)
      (fun _ => iprop(alongX m ρ K c 8 ∗ each fun j d => Sent m ρ c (0, j, d))) :=
  runs_each c _ 0 (alongX m ρ K c) _ _ fun j d => runs_first m ρ K c j d _ (by simp [ix])

theorem run_mid0 : iprop(alongH m ρ K c 8 ∗ each fun j d => iprop(Due c (0, j, d) ∗ Ready c (1, j, d) ∗ srcAny c (1, j, d)))
    ⊢ runs c (four fun j => both fun d => midHop c 0 j d)
      (fun _ => iprop(alongH m ρ K c 16 ∗ each fun j d => iprop(Here m ρ c (0, j, d) ∗ Sent m ρ c (1, j, d)))) :=
  runs_each c _ 8 (alongH m ρ K c) _ _ fun j d => runs_mid m ρ K c 0 j d _ (by simp [ix])

theorem run_mid1 : iprop(alongH m ρ K c 16 ∗ each fun j d => iprop(Due c (1, j, d) ∗ Ready c (2, j, d) ∗ srcAny c (2, j, d)))
    ⊢ runs c (four fun j => both fun d => midHop c 1 j d)
      (fun _ => iprop(alongH m ρ K c 24 ∗ each fun j d => iprop(Here m ρ c (1, j, d) ∗ Sent m ρ c (2, j, d)))) :=
  runs_each c _ 16 (alongH m ρ K c) _ _ fun j d => runs_mid m ρ K c 1 j d _ (by simp [ix])

theorem run_acc : iprop(alongH m ρ K c 24 ∗ each fun j d => iprop(Due c (2, j, d) ∗ Ready c (3, j, d) ∗ srcAny c (3, j, d)))
    ⊢ runs c (four fun j => both fun d => accHop c j d)
      (fun _ => iprop(alongH m ρ K c 32 ∗ each fun j d => iprop(Here m ρ c (2, j, d) ∗ Sent m ρ c (3, j, d)))) :=
  runs_each c _ 24 (alongH m ρ K c) _ _ fun j d => runs_acc m ρ K c j d _ (by show _ = 8 * 3 + _ + _; rfl)

theorem run_pass0 : iprop(alongG m ρ K c 32 ∗ each fun j d => iprop(Due c (3, j, d) ∗ Ready c (4, j, d)))
    ⊢ runs c (four fun j => passHop c 0 j) (fun _ => iprop(alongG m ρ K c 40 ∗ each fun j d => Passed m ρ c 0 j d)) :=
  runs_four c _ (fun j => alongG m ρ K c (32 + 2 * j)) _ _ fun j => runs_pass m ρ K c 0 j _ rfl

theorem run_pass1 : iprop(alongG m ρ K c 40 ∗ each fun j d => iprop(Due c (4, j, d) ∗ Ready c (5, j, d)))
    ⊢ runs c (four fun j => passHop c 1 j) (fun _ => iprop(alongG m ρ K c 48 ∗ each fun j d => Passed m ρ c 1 j d)) :=
  runs_four c _ (fun j => alongG m ρ K c (40 + 2 * j)) _ _ fun j => runs_pass m ρ K c 1 j _ rfl

theorem run_last : iprop(alongG m ρ K c 48 ∗ row 5 (Due c))
    ⊢ runs c (four fun j => lastHop j) (fun _ => iprop(alongG m ρ K c 48 ∗ each fun j d => Here m ρ c (5, j, d))) :=
  runs_four c _ (fun _ => alongG m ρ K c 48) _ _ fun j => runs_last_hop m ρ K c j

theorem run_drain (s : Fin 3) : iprop(alongG m ρ K c 48 ∗ each fun j d => iprop(Away c (lo s j d) ∗ Away c (hi s j d)))
    ⊢ runs c (four fun j => drain s j)
      (fun _ => iprop(alongG m ρ K c 48 ∗ each fun j d => iprop(Gone m ρ c (lo s j d) ∗ Gone m ρ c (hi s j d)))) :=
  runs_four c _ (fun _ => alongG m ρ K c 48) _ _ fun j => runs_drain m ρ K c s j

theorem run_own : iprop(Out m ρ c 0 ∗ bigSep Finset.univ fun d => bigSep Finset.univ fun j => srcPt m ρ fullShare.right c (3, j, d))
    ⊢ runs c (both fun d => ownOut c (k0_pay41 (w2In m ρ c)) d)
      (fun _ => iprop(Out m ρ c 2 ∗ bigSep Finset.univ fun d => bigSep Finset.univ fun j => srcPt m ρ fullShare.right c (3, j, d))) :=
  runs_both c _ (Out m ρ c) _ _ fun d => by
    rw [show d.val = ord 3 d by revert d; decide]
    exact runs_own m ρ c fullShare.right d

theorem run_gather (q : PosShare TreeShare) (t : Fin 3) : iprop(Out m ρ c (2 * t.val + 2) ∗ bigSep Finset.univ fun d => bigSep Finset.univ fun j => dstPt m ρ q c (hi t j d))
    ⊢ runs c (both fun d => gatherOut c (k0_pay41 (w2In m ρ c)) t d)
      (fun _ => iprop(Out m ρ c (2 * t.val + 2 + 2) ∗ bigSep Finset.univ fun d => bigSep Finset.univ fun j => dstPt m ρ q c (hi t j d))) :=
  runs_both c _ (fun k => Out m ρ c (2 * t.val + 2 + k)) _ _ fun d => by
    have h : 2 * t.val + 2 + d.val = ord (asRow t) d := by revert t d; decide
    rw [← Nat.add_assoc, h]
    exact runs_gather m ρ c q t d

omit [FloatOps F] in
theorem each_turn (A : Fin 4 → Fin 2 → sProp 𝕄) : each A = bigSep Finset.univ fun d => bigSep Finset.univ fun j => A j d := by
  unfold each
  simp only [bigSep_univ_two, bigSep_sep']

/-- A row sent: what is under way, and the halves kept. -/
theorem sent_row (r : Fin 6) : (each fun j d => Sent m ρ c (r, j, d)) ⊢ iprop(row r (Away (F := F) c) ∗ row r (srcPt m ρ fullShare.right c)) := by
  unfold Sent
  exact Entails.of_eq (each_sep _ _)

/-- The last row received. -/
theorem here_row : (each fun j d => Here m ρ c (5, j, d))
    ⊢ iprop((row 5 fun ℓ => semVal (rCell c ℓ) 0) ∗ row 5 (dstPt m ρ fullShare c)) := by
  unfold Here
  exact Entails.of_eq (each_sep _ _)

/-! ## What the body starts from and what it leaves -/

/-- A link's tokens and position before the start. -/
def Fresh (ℓ : Link) : sProp 𝕄 :=
  iprop(dutyTok ER (sCell c ℓ) 0 0 ∗ dutyTok ER (rCell (toward c ℓ.2.2) ℓ) 0 0 ∗ atPos ER (sCell c ℓ) 0 ∅ 0 ∗ Due c ℓ)
/-- A link at rest: both its semaphores at zero, the place it writes back. -/
def Used (ℓ : Link) : sProp 𝕄 := iprop(semVal (sCell c ℓ) 0 ∗ semVal (rCell c ℓ) 0 ∗ dstAny c ℓ)

/-- The places the reduction is sent from. -/
def Sources : sProp 𝕄 := iprop(row 0 (srcAny c) ∗ row 1 (srcAny c) ∗ row 2 (srcAny c) ∗ row 3 (srcAny c))

/-- The staged blocks of the inputs. -/
def Ins : sProp 𝕄 := iprop(owns (c : Thread nD τ) xM fullShare (xIn m ρ c) ∗ owns (c : Thread nD τ) w1M fullShare (w1In m ρ c)
  ∗ owns (c : Thread nD τ) w2M fullShare (w2In m ρ c))

def Begin : sProp 𝕄 :=
  iprop((∃ W, owes (c : Thread nD τ) (owed₀ c) W) ∗ Greet c ∗ (bigSep Finset.univ fun ℓ => Fresh c ℓ)
    ∗ (bigSep Finset.univ fun ℓ => dstAny (F := F) c ℓ) ∗ Sources c ∗ Ins m ρ c ∗ anyAt c outM fullShare ∗ anyAt c hM fullShare)

def Finish : sProp 𝕄 :=
  iprop(debt c 48 ∗ semVal (barCell c) 0 ∗ (bigSep Finset.univ fun ℓ => Used c ℓ)
    ∗ Sources c ∗ Ins m ρ c ∗ owns (c : Thread nD τ) outM fullShare (res m ρ c) ∗ anyAt c hM fullShare)

theorem fresh_ready :
    iprop((bigSep Finset.univ fun ℓ => Fresh c ℓ) ∗ bigSep Finset.univ fun ℓ => dstAny (F := F) (toward c ℓ.2.2) ℓ)
      ⊢ iprop((bigSep Finset.univ fun ℓ => Ready (F := F) c ℓ) ∗ bigSep Finset.univ fun ℓ => Due c ℓ) := by
  rw [← bigSep_sep', ← bigSep_sep']
  have h (ℓ : Link) : iprop(Fresh (F := F) c ℓ ∗ dstAny (toward c ℓ.2.2) ℓ) ⊢ iprop(Ready c ℓ ∗ Due c ℓ) := by
    unfold Fresh Ready
    iintro ⟨⟨H1, H2, H3, H4⟩, H5⟩
    isplitr [H4]
    · isplitl [H1]; · iexact H1
      isplitl [H2]; · iexact H2
      isplitl [H5] <;> iassumption
    iexact H4
  exact bigSep_mono fun ℓ _ => h ℓ

theorem srcPt_back (ℓ : Link) : iprop(srcPt m ρ fullShare.left c ℓ ∗ srcPt m ρ fullShare.right c ℓ) ⊢ srcAny c ℓ :=
  ((owns_halves _ _ _ _).2).trans (owns_any c _ _ _)
theorem dstPt_back (ℓ : Link) : iprop(dstPt m ρ fullShare.left c ℓ ∗ dstPt m ρ fullShare.right c ℓ) ⊢ dstAny c ℓ :=
  ((owns_halves _ _ _ _).2).trans (owns_any c _ _ _)
theorem dstPt_any (ℓ : Link) : dstPt m ρ fullShare c ℓ ⊢ dstAny c ℓ := owns_any c _ _ _

/-- A link of the reduction at rest. -/
theorem rest_lo (ℓ : Link) : iprop(Gone m ρ c ℓ ∗ srcPt m ρ fullShare.right c ℓ ∗ Here m ρ c ℓ) ⊢ iprop(Used c ℓ ∗ srcAny c ℓ) := by
  unfold Gone Here Used
  iintro ⟨⟨Hs, HL⟩, HR, Hr, Hd⟩
  ihave HS := (srcPt_back m ρ c ℓ) $$ [HL HR]
  · isplitl [HL] <;> iassumption
  ihave HD := (dstPt_any m ρ c ℓ) $$ Hd
  isplitr [HS]
  · isplitl [Hs]; · iexact Hs
    isplitl [Hr] <;> iassumption
  iexact HS

/-- The three links of the gathering that carry one sub-block round, at rest. -/
theorem rest_hi (j : Fin 4) (d : Fin 2) :
    iprop(Gone m ρ c (3, j, d) ∗ srcPt m ρ fullShare.right c (3, j, d)
        ∗ semVal (rCell c (3, j, d)) 0 ∗ dstPt m ρ fullShare.right c (3, j, d)
        ∗ Gone m ρ c (4, j, d) ∗ semVal (rCell c (4, j, d)) 0 ∗ dstPt m ρ fullShare.right c (4, j, d)
        ∗ Gone m ρ c (5, j, d) ∗ Here m ρ c (5, j, d))
      ⊢ iprop(Used c (3, j, d) ∗ Used c (4, j, d) ∗ Used c (5, j, d) ∗ srcAny c (3, j, d)) := by
  have e4 : srcPt m ρ fullShare.left c (4, j, d) = dstPt m ρ fullShare.left c (3, j, d) := srcPt_up m ρ c fullShare.left 0 j d
  have e5 : srcPt m ρ fullShare.left c (5, j, d) = dstPt m ρ fullShare.left c (4, j, d) := srcPt_up m ρ c fullShare.left 1 j d
  unfold Gone Here Used
  rw [e4, e5]
  iintro ⟨⟨Hs3, HL⟩, HR, Hr3, HR3, ⟨Hs4, HL3⟩, Hr4, HR4, ⟨Hs5, HL4⟩, Hr5, HD5⟩
  ihave HS := (srcPt_back m ρ c (3, j, d)) $$ [HL HR]
  · isplitl [HL] <;> iassumption
  ihave HD3 := (dstPt_back m ρ c (3, j, d)) $$ [HL3 HR3]
  · isplitl [HL3] <;> iassumption
  ihave HD4 := (dstPt_back m ρ c (4, j, d)) $$ [HL4 HR4]
  · isplitl [HL4] <;> iassumption
  ihave HD5 := (dstPt_any m ρ c (5, j, d)) $$ HD5
  isplitl [Hs3 Hr3 HD3]
  · isplitl [Hs3]; · iexact Hs3
    isplitl [Hr3] <;> iassumption
  isplitl [Hs4 Hr4 HD4]
  · isplitl [Hs4]; · iexact Hs4
    isplitl [Hr4] <;> iassumption
  isplitl [Hs5 Hr5 HD5]
  · isplitl [Hs5]; · iexact Hs5
    isplitl [Hr5] <;> iassumption
  iexact HS

/-- The rows of the reduction and of the gathering, at rest. -/
theorem rest_row (ℓ : Fin 6) : iprop(row ℓ (Gone m ρ c) ∗ row ℓ (srcPt m ρ fullShare.right c) ∗ row ℓ (Here m ρ c))
    ⊢ iprop(row ℓ (Used (F := F) c) ∗ row ℓ (srcAny c)) := by
  rw [← each_sep, ← each_sep, ← each_sep]
  exact each_mono fun j d => rest_lo m ρ c _
theorem rest_rows :
    iprop(row 3 (Gone m ρ c) ∗ row 3 (srcPt m ρ fullShare.right c)
        ∗ (row 3 fun ℓ => semVal (rCell c ℓ) 0) ∗ row 3 (dstPt m ρ fullShare.right c)
        ∗ row 4 (Gone m ρ c) ∗ (row 4 fun ℓ => semVal (rCell c ℓ) 0) ∗ row 4 (dstPt m ρ fullShare.right c)
        ∗ row 5 (Gone m ρ c) ∗ (row 5 fun ℓ => semVal (rCell c ℓ) 0) ∗ row 5 (dstPt m ρ fullShare c))
      ⊢ iprop(row 3 (Used (F := F) c) ∗ row 4 (Used c) ∗ row 5 (Used c) ∗ row 3 (srcAny c)) := by
  simp only [← each_sep]
  exact each_mono fun j d => rest_hi m ρ c j d

/-! ## The body -/

theorem runs_bodyAt : iprop(known m ρ K ∗ Begin m ρ c) ⊢ runs c (bodyAt (F := F) c) (fun _ => Finish m ρ c) := by
  unfold Begin bodyAt Ins Sources
  iintro ⟨#HK, HO, HG, HF, HD, ⟨HS0, HS1, HS2, HS3⟩, ⟨Hx, Hw1, Hw2⟩, Hout, Hh⟩
  iapply (runs_use (runs_greet m ρ K c)) $$ [HO HG HD]
  · isplitr; · iexact HK
    isplitl [HO]; · iexact HO
    isplitl [HG] <;> iassumption
  iintro %_ ⟨HO, Hbar, HD⟩
  ihave HR := (fresh_ready c) $$ [HF HD]
  · isplitl [HF] <;> iassumption
  rw [by_rows, by_rows]
  icases HR with ⟨⟨HR0, HR1, HR2, HR3, HR4, HR5⟩, HD0, HD1, HD2, HD3, HD4, HD5⟩
  iapply (runs_use (runs_load c w1M fullShare (Rect.unit (s := S512x512) ![0, 0] S512x512.size inb_S512x512_S512x512_0_0) _ (w1In m ρ c))) $$ Hw1
  iintro %w1 ⟨%hw1, Hw1⟩
  have hw1 : w1 = w1In m ρ c := by
    rw [hw1]; funext i; rw [emb_whole (s := S512x512) ![0, 0] zero2 inb_S512x512_S512x512_0_0 i]
  subst hw1
  iapply (runs_use (run_first m ρ K c)) $$ [HO Hx HR0 HS0]
  · unfold alongX
    rw [each_sep]
    isplitl [HO Hx]
    · isplitr; · iexact HK
      isplitl [HO] <;> iassumption
    isplitl [HR0] <;> iassumption
  iintro %_ ⟨HX, HT0⟩
  unfold alongX
  icases HX with ⟨-, HO, Hx⟩
  iapply (runs_use (runs_product m ρ c)) $$ [Hx Hh]
  · isplitl [Hx] <;> iassumption
  iintro %_ ⟨Hx, Hh⟩
  iapply (runs_use (run_mid0 m ρ K c)) $$ [HO Hh HD0 HR1 HS1]
  · unfold alongH
    rw [each_sep, each_sep]
    isplitl [HO Hh]
    · isplitr; · iexact HK
      isplitl [HO] <;> iassumption
    isplitl [HD0]; · iexact HD0
    isplitl [HR1] <;> iassumption
  rw [each_sep]
  iintro %_ ⟨HH, HN0, HT1⟩
  iapply (runs_use (run_mid1 m ρ K c)) $$ [HH HD1 HR2 HS2]
  · rw [each_sep, each_sep]
    isplitl [HH]; · iexact HH
    isplitl [HD1]; · iexact HD1
    isplitl [HR2] <;> iassumption
  rw [each_sep]
  iintro %_ ⟨HH, HN1, HT2⟩
  iapply (runs_use (run_acc m ρ K c)) $$ [HH HD2 HR3 HS3]
  · rw [each_sep, each_sep]
    isplitl [HH]; · iexact HH
    isplitl [HD2]; · iexact HD2
    isplitl [HR3] <;> iassumption
  rw [each_sep]
  iintro %_ ⟨HH, HN2, HT3⟩
  unfold alongH
  icases HH with ⟨-, HO, Hh⟩
  iapply (runs_use (runs_load c w2M fullShare (Rect.unit (s := S512x512) ![0, 0] S512x512.size inb_S512x512_S512x512_0_0) _ (w2In m ρ c))) $$ Hw2
  iintro %w2 ⟨%hw2, Hw2⟩
  have hw2 : w2 = w2In m ρ c := by
    rw [hw2]; funext i; rw [emb_whole (s := S512x512) ![0, 0] zero2 inb_S512x512_S512x512_0_0 i]
  subst hw2
  ihave HT0 := (sent_row m ρ c 0) $$ HT0
  icases HT0 with ⟨HA0, HT0⟩
  ihave HT1 := (sent_row m ρ c 1) $$ HT1
  icases HT1 with ⟨HA1, HT1⟩
  ihave HT2 := (sent_row m ρ c 2) $$ HT2
  icases HT2 with ⟨HA2, HT2⟩
  ihave HT3 := (sent_row m ρ c 3) $$ HT3
  icases HT3 with ⟨HA3, HT3⟩
  ihave HY := (out_start m ρ c) $$ Hout
  iapply (runs_use (run_own m ρ c)) $$ [HY HT3]
  · isplitl [HY]; · iexact HY
    rw [← each_turn]; iexact HT3
  iintro %_ ⟨HY, HT3⟩
  ihave HGl : alongG m ρ K c 32 $$ [HO]
  · unfold alongG
    isplitr; · iexact HK
    iexact HO
  iapply (runs_use (run_pass0 m ρ K c)) $$ [HGl HD3 HR4]
  · rw [each_sep]
    isplitl [HGl]; · iexact HGl
    isplitl [HD3] <;> iassumption
  unfold Passed
  rw [each_sep, each_sep]
  iintro %_ ⟨HGl, Hz3, HP3, HA4⟩
  iapply (runs_use (run_gather m ρ c fullShare.right 0)) $$ [HY HP3]
  · isplitl [HY]; · iexact HY
    rw [← each_turn]; iexact HP3
  iintro %_ ⟨HY, HP3⟩
  iapply (runs_use (run_pass1 m ρ K c)) $$ [HGl HD4 HR5]
  · rw [each_sep]
    isplitl [HGl]; · iexact HGl
    isplitl [HD4] <;> iassumption
  unfold Passed
  rw [each_sep, each_sep]
  iintro %_ ⟨HGl, Hz4, HP4, HA5⟩
  iapply (runs_use (run_gather m ρ c fullShare.right 1)) $$ [HY HP4]
  · isplitl [HY]; · iexact HY
    rw [← each_turn]; iexact HP4
  iintro %_ ⟨HY, HP4⟩
  iapply (runs_use (run_last m ρ K c)) $$ [HGl HD5]
  · isplitl [HGl] <;> iassumption
  iintro %_ ⟨HGl, HN5⟩
  ihave HN5 := (here_row m ρ c) $$ HN5
  icases HN5 with ⟨Hz5, HN5⟩
  iapply (runs_use (run_gather m ρ c fullShare 2)) $$ [HY HN5]
  · isplitl [HY]; · iexact HY
    rw [← each_turn]; iexact HN5
  iintro %_ ⟨HY, HN5⟩
  iapply (runs_use (run_drain m ρ K c 0)) $$ [HGl HA0 HA3]
  · rw [each_sep]
    isplitl [HGl]; · iexact HGl
    isplitl [HA0]; · iexact HA0
    iexact HA3
  rw [each_sep]
  iintro %_ ⟨HGl, HE0, HE3⟩
  iapply (runs_use (run_drain m ρ K c 1)) $$ [HGl HA1 HA4]
  · rw [each_sep]
    isplitl [HGl]; · iexact HGl
    isplitl [HA1]; · iexact HA1
    iexact HA4
  rw [each_sep]
  iintro %_ ⟨HGl, HE1, HE4⟩
  iapply (runs_last (run_drain m ρ K c 2)) $$ [HGl HA2 HA5]
  · rw [each_sep]
    isplitl [HGl]; · iexact HGl
    isplitl [HA2]; · iexact HA2
    iexact HA5
  rw [each_sep]
  iintro %_ ⟨HGl, HE2, HE5⟩
  unfold Finish Sources Ins
  rw [by_rows]
  ihave HQ0 := (rest_row m ρ c 0) $$ [HE0 HT0 HN0]
  · isplitl [HE0]; · iexact HE0
    isplitl [HT0] <;> iassumption
  icases HQ0 with ⟨HU0, HS0⟩
  ihave HQ1 := (rest_row m ρ c 1) $$ [HE1 HT1 HN1]
  · isplitl [HE1]; · iexact HE1
    isplitl [HT1] <;> iassumption
  icases HQ1 with ⟨HU1, HS1⟩
  ihave HQ2 := (rest_row m ρ c 2) $$ [HE2 HT2 HN2]
  · isplitl [HE2]; · iexact HE2
    isplitl [HT2] <;> iassumption
  icases HQ2 with ⟨HU2, HS2⟩
  ihave HQ3 := (rest_rows m ρ c) $$ [HE3 HT3 Hz3 HP3 HE4 Hz4 HP4 HE5 Hz5 HN5]
  · isplitl [HE3]; · iexact HE3
    isplitl [HT3]; · iapply (Entails.of_eq (each_turn fun j d => srcPt m ρ fullShare.right c (3, j, d)).symm); iexact HT3
    isplitl [Hz3]; · iexact Hz3
    isplitl [HP3]; · iapply (Entails.of_eq (each_turn fun j d => dstPt m ρ fullShare.right c (3, j, d)).symm); iexact HP3
    isplitl [HE4]; · iexact HE4
    isplitl [Hz4]; · iexact Hz4
    isplitl [HP4]; · iapply (Entails.of_eq (each_turn fun j d => dstPt m ρ fullShare.right c (4, j, d)).symm); iexact HP4
    isplitl [HE5]; · iexact HE5
    isplitl [Hz5]; · iexact Hz5
    iapply (Entails.of_eq (each_turn fun j d => dstPt m ρ fullShare c (5, j, d)).symm); iexact HN5
  icases HQ3 with ⟨HU3, HU4, HU5, HS3⟩
  unfold alongG
  icases HGl with ⟨-, HO⟩
  isplitl [HO]; · iexact HO
  isplitl [Hbar]; · iexact Hbar
  isplitl [HU0 HU1 HU2 HU3 HU4 HU5]
  · isplitl [HU0]; · iexact HU0
    isplitl [HU1]; · iexact HU1
    isplitl [HU2]; · iexact HU2
    isplitl [HU3]; · iexact HU3
    isplitl [HU4] <;> iassumption
  isplitl [HS0 HS1 HS2 HS3]
  · isplitl [HS0]; · iexact HS0
    isplitl [HS1]; · iexact HS1
    isplitl [HS2] <;> iassumption
  isplitl [Hx Hw1 Hw2]
  · isplitl [Hx]; · iexact Hx
    isplitl [Hw1] <;> iassumption
  isplitl [HY]
  · iapply (out_end m ρ c); iexact HY
  iapply (owns_any c hM fullShare _); iexact Hh

end Cert.KernelIdeal.Ring

end

end
-- ==== Proof.Store.lean ====
/- The scratch buffers, held whole and held place by place. -/
module

public import proofs.«01_k».proof.Proof.Whole

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

omit [FloatOps F] in
/-- The order of two big conjunctions does not matter. -/
theorem bigSep_turn {I J : Type} [Fintype I] [Fintype J] [DecidableEq I] [DecidableEq J] (A : I → J → sProp 𝕄) :
    (bigSep Finset.univ fun i => bigSep Finset.univ fun j => A i j) = bigSep Finset.univ fun j => bigSep Finset.univ fun i => A i j := by
  have h := bigSep_univ_equiv (Equiv.prodComm J I) (fun p : I × J => A p.1 p.2)
  rw [bigSep_univ_prod, bigSep_univ_prod] at h
  exact h

omit [FloatOps F] in
theorem sep_assoc_to (A B C : sProp 𝕄) : iprop((A ∗ B) ∗ C) = iprop(A ∗ B ∗ C) := Entails.antisymm BI.sep_assoc BI.sep_assoc'

/-! ## One buffer -/

/-- A buffer of twelve sub-blocks, sub-block by sub-block. -/
theorem in_twelve (M : Memref sig .tc .vmem S3x4x64x512 .bf16) :
    (anyAt c M fullShare : sProp 𝕄)
      = bigSep Finset.univ fun t : Fin 3 => bigSep Finset.univ fun j : Fin 4 => anyAt c (slot4 M t j) fullShare := by
  have e : (bigSep Finset.univ fun t : Fin 3 × Fin 4 => anyAt (F := F) c (slot4 M t.1 t.2) fullShare)
      = bigSep Finset.univ fun t : Fin 3 => bigSep Finset.univ fun j : Fin 4 => anyAt c (slot4 M t j) fullShare := bigSep_univ_prod _
  rw [← e]
  have hd : ∀ t t' : Fin 3 × Fin 4, t ≠ t' → Disjoint (rect4 t.1 t.2).set (rect4 t'.1 t'.2).set := fun t t' h =>
    rect4_disjoint (by
      by_contra hn
      rw [not_or, not_not, not_not] at hn
      exact h (Prod.ext hn.1 hn.2))
  exact Entails.antisymm
    (any_split c M fullShare (fun t : Fin 3 × Fin 4 => rect4 t.1 t.2) (fun _ _ => rfl) (fun _ => squeezes_S1x1x64x512_S64x512) hd Finset.univ cover4)
    (any_join c M fullShare (fun t : Fin 3 × Fin 4 => rect4 t.1 t.2) (fun _ _ => rfl) (fun _ => squeezes_S1x1x64x512_S64x512) hd Finset.univ cover4)

/-- A buffer of four. -/
theorem in_four (M : Memref sig .tc .vmem S4x64x512 .bf16) :
    (anyAt c M fullShare : sProp 𝕄) = bigSep Finset.univ fun j : Fin 4 => anyAt c (slot3 M j) fullShare := by
  have hd : ∀ j j' : Fin 4, j ≠ j' → Disjoint (rect3 j).set (rect3 j').set := fun j j' h => rect3_disjoint h
  exact Entails.antisymm
    (any_split c M fullShare rect3 (fun _ _ => rfl) (fun _ => squeezes_S1x64x512_S64x512) hd Finset.univ cover3)
    (any_join c M fullShare rect3 (fun _ _ => rfl) (fun _ => squeezes_S1x64x512_S64x512) hd Finset.univ cover3)

/-! ## The buffers of both directions -/

/-- Three rows of places, each direction's in its own buffer. -/
theorem three_rows (A : Fin 2 → Fin 3 → Fin 4 → sProp 𝕄) :
    (bigSep Finset.univ fun d => bigSep Finset.univ fun t => bigSep Finset.univ fun j => A d t j)
      = iprop((each fun j d => A d 0 j) ∗ (each fun j d => A d 1 j) ∗ each fun j d => A d 2 j) := by
  rw [bigSep_turn, bigSep_univ_eq_bigSepL [0, 1, 2] (by decide) (by decide), each_turn, each_turn, each_turn]
  rfl

/-- The places the links write, by buffer. -/
theorem places_eq :
    (bigSep Finset.univ fun ℓ => dstAny (F := F) c ℓ)
      = iprop((bigSep Finset.univ fun d => anyAt c (rsRecv d) fullShare) ∗ bigSep Finset.univ fun d => anyAt c (agRecv d) fullShare) := by
  rw [by_rows]
  have h4 (M : Fin 2 → Memref sig .tc .vmem S3x4x64x512 .bf16) := (congrArg (bigSep (Finset.univ : Finset (Fin 2)))
    (funext fun d => in_twelve (F := F) c (M d))).trans (three_rows fun d t j => anyAt c (slot4 (M d) t j) fullShare)
  rw [h4, h4]
  simp only [sep_assoc_to]
  rfl

/-- The places the reduction is sent from, by buffer. -/
theorem sources_eq :
    (Sources (F := F) c)
      = iprop((bigSep Finset.univ fun d => anyAt c (rsSend d) fullShare) ∗ bigSep Finset.univ fun d => anyAt c (accM d) fullShare) := by
  unfold Sources
  have h4 (M : Fin 2 → Memref sig .tc .vmem S3x4x64x512 .bf16) := (congrArg (bigSep (Finset.univ : Finset (Fin 2)))
    (funext fun d => in_twelve (F := F) c (M d))).trans (three_rows fun d t j => anyAt c (slot4 (M d) t j) fullShare)
  have h3 (M : Fin 2 → Memref sig .tc .vmem S4x64x512 .bf16) := (congrArg (bigSep (Finset.univ : Finset (Fin 2)))
    (funext fun d => in_four (F := F) c (M d))).trans (each_turn fun j d => anyAt c (slot3 (M d) j) fullShare).symm
  rw [h4, h3]
  simp only [sep_assoc_to]
  rfl

end Cert.KernelIdeal.Ring

end

end
-- ==== Proof.Deal.lean ====
/- What the launch deals each device: the cells' records, its positions, the tokens of what it pays, its credits. -/
module

public import proofs.«01_k».proof.Proof.Store

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The cells of a device -/

omit [FloatOps F] in
/-- The greeting's cell, then the links'. -/
theorem by_cell (A : Cell → sProp 𝕄) : bigSep Finset.univ A = iprop(A none ∗ bigSep Finset.univ fun p : Link × Bool => A (some p)) := by
  rw [show (Finset.univ : Finset Cell) = insert none (Finset.univ.map Function.Embedding.some) from by
      ext k; cases k <;> simp, bigSep_insert (by simp), bigSep_map]
  rfl
omit [FloatOps F] in
/-- The links' cells: departures, then arrivals. -/
theorem by_side (A : Link × Bool → sProp 𝕄) :
    bigSep Finset.univ A = iprop((bigSep Finset.univ fun ℓ => A (ℓ, false)) ∗ bigSep Finset.univ fun ℓ => A (ℓ, true)) := by
  rw [bigSep_univ_prod, ← bigSep_sep']
  exact bigSep_congr fun ℓ _ => bigSep_univ_eq_bigSepL [false, true] (by decide) (by decide) fun b => A (ℓ, b)

theorem kcell_injective : Function.Injective (kcell : Dev nD × Cell → GSem nD τ sig) := by
  rintro ⟨c, k⟩ ⟨c', k'⟩ h
  have h1 : c = c' := congrArg (fun g : GSem nD τ sig => g.1.1) h
  have h2 : k = k' := osem_injective (congrArg Prod.snd h)
  rw [h1, h2]

/-- The links' semaphores, the kernel's own. -/
abbrev lsem (p : Link × Bool) : SemLoc sig := osem (some p)

theorem lsem_facts : Pipeline.OwnSemFacts cfg0.spec lsem where
  isScoped p := by
    revert p; decide
  inj p p' h := Option.some.inj (osem_injective h)
  disj p w s h := by
    have h := congrArg kindOf h
    rw [kindOf_osem] at h
    have h0 : kindOf (.dma ((cfg0.spec w).sem s)) = none := by
      fin_cases w <;> fin_cases s <;> decide
    rw [h0] at h
    exact Option.some_ne_none _ h

omit [FloatOps F] in
theorem unscoped_eq : (unscopedSems0 c : sProp 𝕄) = semVal (barCell c) 0 := by
  unfold unscopedSems0
  rw [bigSep_eq_bigSepL_of_eq [SemLoc.reg barrier0] (by decide) (by decide)]
  rfl

omit [FloatOps F] in
/-- Every semaphore of the schedule, at zero. -/
theorem zeros_eq :
    iprop(Pipeline.ownSems0 (Ix := Unit) (Name := ℕ) (U := UU) (Lvl := ℕ) (Val := Elt F) (τ := τ) lsem c ∗ unscopedSems0 c)
      ⊢ (bigSep Finset.univ fun k : Cell => semVal (kcell (c, k)) 0 : sProp 𝕄) := by
  rw [unscoped_eq, by_cell]
  unfold Pipeline.ownSems0
  iintro ⟨H, HB⟩
  isplitl [HB]; · iexact HB
  iexact H

/-! ## The ghost state minted -/

def cells : Finset (GSem nD τ sig) := Finset.univ.map ⟨kcell, kcell_injective⟩

/-- A token for each cell and each duty it may have. -/
abbrev tokOf (p : Dev nD × Cell × Fin 2) : GSem nD τ sig × ℕ × Fin 2 := (kcell (p.1, p.2.1), 0, p.2.2)
theorem tokOf_injective : Function.Injective tokOf := by
  rintro ⟨c, k, d⟩ ⟨c', k', d'⟩ h
  have h1 := kcell_injective (congrArg (fun x : GSem nD τ sig × ℕ × Fin 2 => x.1) h)
  have h2 : d = d' := congrArg (fun x : GSem nD τ sig × ℕ × Fin 2 => x.2.2) h
  simp only [Prod.mk.injEq] at h1
  rw [h1.1, h1.2, h2]
def tokens : Finset (GSem nD τ sig × ℕ × Fin 2) := Finset.univ.map ⟨tokOf, tokOf_injective⟩

def u₀ : UU := (initOf (Pipeline.cells cfgs cellOf_inj) (Pipeline.launchToks cfgs cellOf_inj), initOf cells tokens)

/-- The tokens of device `c`'s own cells. -/
def minted : sProp 𝕄 := bigSep Finset.univ fun k : Cell => bigSep Finset.univ fun d : Fin 2 => dutyTok ER (kcell (c, k)) 0 d

/-- A device's share of the minting. -/
def G : sProp 𝕄 :=
  iprop((bigSep Finset.univ fun k : Cell => roundState ER (Rd m ρ) (kcell (c, k)) 0)
    ∗ (bigSep Finset.univ fun k : Cell => atPos ER (kcell (c, k)) 0 ∅ 0)
    ∗ (bigSep Finset.univ fun k : Cell => reached ER (kcell (c, k)) 0) ∗ minted c)

theorem mint : BI.own (ER (initOf cells tokens)) ⊢ (|==> bigSep Finset.univ (G m ρ) : sProp 𝕄) := by
  have hX (A : GSem nD τ sig → sProp 𝕄) : bigSep cells A = bigSep Finset.univ fun c : Dev nD => bigSep Finset.univ fun k : Cell => A (kcell (c, k)) := by
    unfold cells; rw [bigSep_map, bigSep_univ_prod]; rfl
  have hT : bigSep tokens (fun x => (dutyTok ER x.1 x.2.1 x.2.2 : sProp 𝕄)) = bigSep Finset.univ fun c : Dev nD => minted c := by
    unfold tokens; rw [bigSep_map, bigSep_univ_prod]
    refine bigSep_congr fun c _ => ?_
    unfold minted
    rw [bigSep_univ_prod]
    rfl
  iintro HX
  imod (Rounds.fund ER (Rd m ρ) cells tokens) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## Tokens to those who pay -/

/-- The tokens of what device `c` pays: a greeting to each neighbour, its links' departures and arrivals. -/
def pays : sProp 𝕄 :=
  iprop(dutyTok ER (barCell (toward c 1)) 0 0 ∗ dutyTok ER (barCell (toward c 0)) 0 1
    ∗ (bigSep Finset.univ fun ℓ => dutyTok ER (sCell c ℓ) 0 0) ∗ bigSep Finset.univ fun ℓ => dutyTok ER (rCell (toward c ℓ.2.2) ℓ) 0 0)

/-- The tokens of a device's own cells that are ever used. -/
def mine : sProp 𝕄 :=
  iprop(dutyTok ER (barCell c) 0 0 ∗ dutyTok ER (barCell c) 0 1
    ∗ (bigSep Finset.univ fun ℓ => dutyTok ER (sCell c ℓ) 0 0) ∗ bigSep Finset.univ fun ℓ => dutyTok ER (rCell c ℓ) 0 0)

omit [FloatOps F] in
theorem minted_mine : (minted c : sProp 𝕄) ⊢ mine c := by
  unfold minted mine
  rw [by_cell, by_side]
  have h (b : Bool) (ℓ : Link) : (bigSep Finset.univ fun d : Fin 2 => dutyTok ER (kcell (c, some (ℓ, b))) 0 d : sProp 𝕄)
      ⊢ dutyTok ER (kcell (c, some (ℓ, b))) 0 0 := bigSep_elim (Finset.mem_univ 0)
  have hb (b : Bool) : (bigSep Finset.univ fun ℓ : Link => bigSep Finset.univ fun d : Fin 2 => dutyTok ER (kcell (c, some (ℓ, b))) 0 d : sProp 𝕄)
      ⊢ bigSep Finset.univ fun ℓ : Link => dutyTok ER (kcell (c, some (ℓ, b))) 0 0 := bigSep_mono fun ℓ _ => h b ℓ
  iintro ⟨HB, Hs, Hr⟩
  ihave HB := (Entails.of_eq (bigSep_univ_two _)) $$ HB
  icases HB with ⟨H0, H1⟩
  ihave Hs := (hb false) $$ Hs
  ihave Hr := (hb true) $$ Hr
  isplitl [H0]; · iexact H0
  isplitl [H1]; · iexact H1
  isplitl [Hs]; · iexact Hs
  iexact Hr

omit [FloatOps F] in
/-- Each device takes the tokens of what it pays from its neighbours. -/
theorem deal_tokens : (bigSep Finset.univ fun c : Dev nD => (mine c : sProp 𝕄)) = bigSep Finset.univ fun c : Dev nD => pays c := by
  unfold mine pays
  simp only [bigSep_sep']
  rw [bigSep_univ_equiv (turn 1) (fun c : Dev nD => (dutyTok ER (barCell c) 0 0 : sProp 𝕄)),
    bigSep_univ_equiv (turn 0) (fun c : Dev nD => (dutyTok ER (barCell c) 0 1 : sProp 𝕄)),
    bigSep_turn (fun (c : Dev nD) (ℓ : Link) => (dutyTok ER (rCell c ℓ) 0 0 : sProp 𝕄)),
    bigSep_turn (fun (c : Dev nD) (ℓ : Link) => (dutyTok ER (rCell (toward c ℓ.2.2) ℓ) 0 0 : sProp 𝕄)),
    bigSep_congr (s := Finset.univ) fun (ℓ : Link) _ => bigSep_univ_equiv (turn ℓ.2.2) (fun c : Dev nD => (dutyTok ER (rCell c ℓ) 0 0 : sProp 𝕄))]
  rfl

/-! ## Cells opened -/

/-- What everyone knows of the cells. -/
def records : sProp 𝕄 := bigSep Finset.univ fun ck : Dev nD × Cell => iprop(cellInv ER (Rd m ρ) (K ck) (kcell ck) ∗ reached ER (kcell ck) 0)

instance records_persistent : BI.Persistent (records (F := F) m ρ K) := by unfold records; infer_instance

/-- What a device alone holds. -/
def own : sProp 𝕄 := iprop((bigSep Finset.univ fun k : Cell => atPos ER (kcell (c, k)) 0 ∅ 0) ∗ pays c)

def G' : sProp 𝕄 := iprop(∃ K, records m ρ K ∗ own c)

/-- One device's cells opened. -/
theorem open_cells :
    iprop(Pipeline.ownSems0 (Ix := Unit) (Name := ℕ) (U := UU) (Lvl := ℕ) (Val := Elt F) (τ := τ) lsem c ∗ unscopedSems0 c ∗ G m ρ c)
      ⊢ |={Set.univ}=> iprop((bigSep Finset.univ fun k : Cell => iprop(∃ κ : ℕ, cellInv ER (Rd m ρ) κ (kcell (c, k))))
          ∗ (bigSep Finset.univ fun k : Cell => atPos ER (kcell (c, k)) 0 ∅ 0)
          ∗ (bigSep Finset.univ fun k : Cell => reached ER (kcell (c, k)) 0) ∗ mine c) := by
  have ho : iprop((bigSep Finset.univ fun k : Cell => semVal (kcell (c, k)) 0) ∗ bigSep Finset.univ fun k : Cell => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hat, Hr, Htok⟩
  ihave Hv := (zeros_eq (F := F) c) $$ [Hos Hus]
  · isplitl [Hos] <;> iassumption
  imod ho $$ [Hv Hst] with Hinv
  · isplitl [Hv] <;> iassumption
  imodintro
  isplitl [Hinv]; · iexact Hinv
  isplitl [Hat]; · iexact Hat
  isplitl [Hr]; · iexact Hr
  iapply (minted_mine c) $$ Htok

omit [FloatOps F] in
theorem with_known {I : Type} [DecidableEq I] {S : Finset I} {R : sProp 𝕄} [BI.Persistent R] {A B : I → sProp 𝕄}
    (h : ∀ i, iprop(R ∗ A i) ⊢ B i) : iprop(R ∗ bigSep S A) ⊢ bigSep S B :=
  (sep_mono_left (BI.bigSep_of_persistent S R)).trans (by rw [← bigSep_sep']; exact bigSep_mono fun i _ => h i)

theorem gather_cells :
    (bigSep Finset.univ fun c : Dev nD => iprop((bigSep Finset.univ fun k : Cell => iprop(∃ κ : ℕ, cellInv ER (Rd m ρ) κ (kcell (c, k))))
          ∗ (bigSep Finset.univ fun k : Cell => atPos ER (kcell (c, k)) 0 ∅ 0)
          ∗ (bigSep Finset.univ fun k : Cell => reached ER (kcell (c, k)) 0) ∗ mine c) : sProp 𝕄)
      ⊢ bigSep Finset.univ (G' m ρ) := by
  simp only [bigSep_sep']
  rw [← bigSep_univ_prod (fun ck : Dev nD × Cell => iprop(∃ κ : ℕ, cellInv ER (Rd m ρ) κ (kcell ck))),
    ← bigSep_univ_prod (fun ck : Dev nD × Cell => (reached ER (kcell ck) 0 : sProp 𝕄)), deal_tokens]
  iintro ⟨HI, Hat, HR, Htok⟩
  ihave HK := (BI.bigSep_exists_pi Finset.univ (fun (ck : Dev nD × Cell) (κ : ℕ) => (cellInv ER (Rd m ρ) κ (kcell ck) : sProp 𝕄))) $$ HI
  icases HK with ⟨%K, HI⟩
  have hg (c : Dev nD) : iprop(records m ρ K ∗ own c) ⊢ G' m ρ c := by
    unfold G'
    iintro H
    iexists K
    iexact H
  iapply (with_known (R := records m ρ K) hg)
  isplitl [HI HR]
  · unfold records
    rw [bigSep_sep']
    isplitl [HI] <;> iassumption
  · unfold own
    rw [bigSep_sep']
    isplitl [Hat] <;> iassumption

/-- All devices' cells opened at once. -/
theorem glob : (bigSep Finset.univ fun c => iprop(Pipeline.ownSems0 (Ix := Unit) (Name := ℕ) (U := UU) (Lvl := ℕ) (Val := Elt F) (τ := τ) lsem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (gather_cells m ρ))

/-! ## Credits -/

theorem rCell_inj {a b : Dev nD} {ℓ ℓ' : Link} (h : rCell a ℓ = rCell b ℓ') : a = b ∧ ℓ = ℓ' := by
  have h := kcell_injective (a₁ := (a, some (ℓ, true))) (a₂ := (b, some (ℓ', true))) h
  simp only [Prod.mk.injEq, Option.some.injEq, and_true] at h
  exact h
theorem bar_ne_r {a b : Dev nD} {ℓ : Link} : barCell a ≠ rCell b ℓ := fun h => by
  have h := kcell_injective (a₁ := (a, none)) (a₂ := (b, some (ℓ, true))) h
  simp at h
theorem bar_inj {a b : Dev nD} (h : barCell a = barCell b) : a = b := congrArg (fun g : GSem nD τ sig => g.1.1) h

theorem owed_apply (d : Dev nD) (g : GSem nD τ sig) :
    owed d 0 g () = ∑ ℓ : Link, if g = rCell (toward d ℓ.2.2) ℓ then N else 0 := by
  unfold owed
  rw [Finset.filter_true_of_mem fun ℓ _ => Nat.zero_le _, Finset.sum_apply, Finsupp.finset_sum_apply]
  refine Finset.sum_congr rfl fun ℓ _ => ?_
  rw [tallyAt_apply]
  simp

theorem owed₀_bar (d : Dev nD) :
    owed₀ d (barCell c) () = (if d = toward c 1 then 1 else 0) + (if d = toward c 0 then 1 else 0) := by
  unfold owed₀ owed₁
  rw [Pi.add_apply, Finsupp.add_apply, Pi.add_apply, Finsupp.add_apply, owed_apply,
    Finset.sum_eq_zero fun ℓ _ => if_neg bar_ne_r, tallyAt_apply, tallyAt_apply, Nat.zero_add]
  congr 1
  · refine if_congr ⟨fun h => ?_, fun h => ?_⟩ rfl rfl
    · rw [bar_inj h.1]; exact (toward_flip d 0).symm
    · rw [h]; exact ⟨congrArg _ (toward_flip c 1).symm, rfl⟩
  · refine if_congr ⟨fun h => ?_, fun h => ?_⟩ rfl rfl
    · rw [bar_inj h.1]; exact (toward_flip d 1).symm
    · rw [h]; exact ⟨congrArg _ (toward_flip c 0).symm, rfl⟩

theorem owed₀_r (d : Dev nD) (ℓ : Link) : owed₀ d (rCell c ℓ) () = if d = origin c ℓ.2.2 then N else 0 := by
  unfold owed₀ owed₁
  rw [Pi.add_apply, Finsupp.add_apply, Pi.add_apply, Finsupp.add_apply, owed_apply, tallyAt_apply, tallyAt_apply,
    if_neg (fun h => bar_ne_r h.1.symm), if_neg (fun h => bar_ne_r h.1.symm), Nat.add_zero,
    Finset.sum_eq_single ℓ (fun ℓ' _ hne => if_neg fun h => hne (rCell_inj h).2.symm) (fun h => absurd (Finset.mem_univ _) h)]
  refine if_congr ⟨fun h => ?_, fun h => ?_⟩ rfl rfl
  · rw [(rCell_inj h).1, origin_toward]
  · rw [h, toward_origin]

theorem launch_bar :
    tallyOn (barCell c) (launchCredit (Pipeline.owing owed₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed₀_bar c d, Finset.sum_add_distrib,
    Finset.sum_ite_eq' Finset.univ (toward c 1) fun _ => 1, Finset.sum_ite_eq' Finset.univ (toward c 0) fun _ => 1,
    if_pos (Finset.mem_univ _), if_pos (Finset.mem_univ _)]
theorem launch_r (ℓ : Link) :
    tallyOn (rCell c ℓ) (launchCredit (Pipeline.owing owed₀) 0 (rCell c ℓ)) = (tallyAt (rCell c ℓ) () N : CellTallies nD τ sig Unit) := by
  unfold tallyAt
  refine congrArg _ (Finsupp.ext fun u => ?_)
  cases u
  rw [Pipeline.launchCredit_owing, Finsupp.single_eq_same, Finset.sum_congr rfl fun d _ => owed₀_r c d ℓ,
    Finset.sum_ite_eq' Finset.univ (origin c ℓ.2.2) fun _ => N, if_pos (Finset.mem_univ _)]

/-- The credit a device waits with. -/
def credits : sProp 𝕄 := iprop(cred (tallyAt (barCell c) () 2) ∗ bigSep Finset.univ fun ℓ => cred (tallyAt (rCell c ℓ) () N))

omit [FloatOps F] in
theorem launch_credits : (Pipeline.launchCred owed₀ c : sProp 𝕄) ⊢ credits c := by
  have h : (Pipeline.launchCred owed₀ c : sProp 𝕄)
      ⊢ bigSep Finset.univ fun k : Cell => cred (tallyOn (kcell (c, k)) (launchCredit (Pipeline.owing owed₀) 0 (kcell (c, k)))) := by
    unfold Pipeline.launchCred
    refine (bigSep_subset (t := Finset.univ.map ⟨osem, osem_injective⟩) (Finset.subset_univ _)).trans ?_
    exact Entails.of_eq (bigSep_map _)
  have hr : (bigSep Finset.univ fun ℓ : Link => cred (tallyOn (rCell c ℓ) (launchCredit (Pipeline.owing owed₀) 0 (rCell c ℓ))) : sProp 𝕄)
      = bigSep Finset.univ fun ℓ => cred (tallyAt (rCell c ℓ) () N) := bigSep_congr fun ℓ _ => congrArg cred (launch_r c ℓ)
  have hb : (cred (tallyOn (barCell c) (launchCredit (Pipeline.owing owed₀) 0 (barCell c))) : sProp 𝕄) = cred (tallyAt (barCell c) () 2) :=
    congrArg cred (launch_bar c)
  rw [by_cell, by_side] at h
  unfold credits
  iintro H
  ihave H := h $$ H
  icases H with ⟨HB, -, HR⟩
  isplitl [HB]
  · iapply (Entails.of_eq hb); iexact HB
  · iapply (Entails.of_eq hr); iexact HR

/-! ## What the body takes -/

theorem greet_fresh : iprop(own c ∗ credits (F := F) c) ⊢ iprop(Greet c ∗ bigSep Finset.univ fun ℓ => Fresh c ℓ) := by
  unfold own credits pays Greet Fresh Due
  simp only [bigSep_sep']
  rw [by_cell, by_side]
  iintro ⟨⟨⟨Hb, Hs, Hr⟩, T1, T2, T3, T4⟩, HC, HCr⟩
  isplitl [Hb T1 T2 HC]
  · isplitl [T1]; · iexact T1
    isplitl [T2]; · iexact T2
    isplitl [HC]; · iexact HC
    iexact Hb
  isplitl [T3]; · iexact T3
  isplitl [T4]; · iexact T4
  isplitl [Hs]; · iexact Hs
  isplitl [HCr]; · iexact HCr
  iexact Hr

end Cert.KernelIdeal.Ring

end

end
-- ==== Proof.HopsEq.lean ====
/- The printed body, at the buffers and semaphores the launch passes it, is the sequence of hops of `Hops.lean`. -/
module

public import proofs.«01_k».proof.Proof.Hops

@[expose] public section

namespace Cert.KernelIdeal.Ring

open Idealize.ShloMosaic Idealize.SL.Sem Cert.KernelIdeal Cert.KernelIdeal.Gen

variable {F : FTy → Type} [FloatOps F]

set_option maxRecDepth 65536 in
set_option maxHeartbeats 0 in
/-- The printed body is the sequence of hops. -/
theorem body_eq :
    cc0_body (F := F) xM (Memref.isWhole_whole _) w1M (Memref.isWhole_whole _) w2M (Memref.isWhole_whole _)
      outM (Memref.isWhole_whole _) hM (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)
      (Memref.whole cc0_scratch7) (Memref.isWhole_whole _) (Memref.whole cc0_scratch8) (Memref.isWhole_whole _)
      cc0_scratch9 cc0_scratch10 cc0_scratch11 cc0_scratch12 cc0_scratch13 cc0_scratch14 cc0_scratch15 cc0_scratch16
      = body := rfl

end Cert.KernelIdeal.Ring

end
-- ==== Proof.Launch.lean ====
/- The launch: from any memory with zero counters the four kernels end, each device's result computed, its inputs as they were. -/
module

public import proofs.«01_k».proof.Proof.Deal
public import proofs.«01_k».proof.Proof.HopsEq
public import proofs.«01_k».proof.Proof.Gen.KernelIdeal.Launch
public import Idealize.ShloMosaic.Lib.Pipeline.Launch
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

/-! ## The scratch buffers -/

/-- The nine scratch buffers, holding anything. -/
def Scratch : sProp 𝕄 := Pipeline.scopedRest (Ix := Unit) (Name := ℕ) (U := UU) (Lvl := ℕ) (Val := Elt F) cfg0.spec c

theorem scratch_eq : (Scratch (F := F) c)
    = iprop(anyAt c hM fullShare ∗ anyAt c (rsSend 0) fullShare ∗ anyAt c (rsRecv 0) fullShare ∗ anyAt c (rsSend 1) fullShare
      ∗ anyAt c (rsRecv 1) fullShare ∗ anyAt c (agRecv 0) fullShare ∗ anyAt c (agRecv 1) fullShare ∗ anyAt c (accM 0) fullShare
      ∗ anyAt c (accM 1) fullShare) := by
  unfold Scratch
  rw [scopedRest0_eq]
  unfold anyAt hM rsSend rsRecv agRecv accM
  simp only [Memref.view_whole, View.set_whole]

theorem scratch_open : (Scratch (F := F) c) ⊢ iprop((bigSep Finset.univ fun ℓ => dstAny (F := F) c ℓ) ∗ Sources c ∗ anyAt c hM fullShare) := by
  rw [scratch_eq, places_eq, sources_eq]
  simp only [bigSep_univ_two]
  iintro ⟨H0, H1, H2, H3, H4, H5, H6, H7, H8⟩
  isplitl [H2 H4 H5 H6]
  · isplitl [H2 H4]
    · isplitl [H2] <;> iassumption
    · isplitl [H5] <;> iassumption
  isplitl [H1 H3 H7 H8]
  · isplitl [H1 H3]
    · isplitl [H1] <;> iassumption
    · isplitl [H7] <;> iassumption
  iexact H0

theorem scratch_close : iprop((bigSep Finset.univ fun ℓ => dstAny (F := F) c ℓ) ∗ Sources c ∗ anyAt c hM fullShare) ⊢ (Scratch (F := F) c) := by
  rw [scratch_eq, places_eq, sources_eq]
  simp only [bigSep_univ_two]
  iintro ⟨⟨⟨H2, H4⟩, H5, H6⟩, ⟨⟨H1, H3⟩, H7, H8⟩, H0⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7] <;> iassumption

/-! ## The region's data -/

/-- What a device holds besides memory when its body begins. -/
def start : sProp 𝕄 := iprop((∃ K, known m ρ K ∗ own c) ∗ credits c)

def Φ₀ : sProp 𝕄 := iprop(start m ρ c ∗ Scratch (F := F) c)
/-- When it ends: every counter at zero. -/
def Φ₁ : sProp 𝕄 := iprop(unscopedSems0 c
  ∗ Pipeline.ownSems0 (Ix := Unit) (Name := ℕ) (U := UU) (Lvl := ℕ) (Val := Elt F) (τ := τ) lsem c ∗ Scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => w1In m ρ c
    | ⟨2, _⟩ => w2In m ρ c
    | ⟨3, _⟩ => res m ρ c
    | ⟨_ + 4, h⟩ => absurd h (Nat.not_lt.2 (Nat.le_add_left _ _))
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-- The one point of the grid. -/
def t₀ : Fin cfg0.N := t0_0
theorem fin_N (t : Fin cfg0.N) : t = t₀ := fin_N0 t

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

/-- A whole buffer at given contents. -/
abbrev stg (b : Ref sig .tc) (X : Buf (Elt F) ((c : Thread nD τ).loc b)) : sProp 𝕄 :=
  iprop(∃ f, ⌜f = X⌝ ∗ ((c : Thread nD τ).loc b ↦{fullShare} f))

theorem owns_stg (b : Ref sig .tc) (X : Buf (Elt F) ((c : Thread nD τ).loc b)) : (owns (c : Thread nD τ) (Memref.whole b) fullShare X : sProp 𝕄) = stg c b X :=
  owns_whole_eq ..

set_option maxRecDepth 4000 in
def bodyPre : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
set_option maxRecDepth 4000 in
def bodyPost : sProp 𝕄 :=
  iprop(Φ₁ (F := F) c ∗ (dats m ρ 0 c).owesAt () t₀.succ
    ∗ stg c cc0_stg0_0 (xIn m ρ c) ∗ stg c cc0_stg1_0 (w1In m ρ c) ∗ stg c cc0_stg2_0 (w2In m ρ c) ∗ stg c cc0_stg3_0 (res m ρ c))

theorem stg_owns (b : Ref sig .tc) (X : Buf (Elt F) ((c : Thread nD τ).loc b)) :
    stg c b X ⊢ owns (c : Thread nD τ) (Memref.whole b) fullShare X := Entails.of_eq (owns_whole_eq ..).symm

theorem before_0 (d) : (dats m ρ 0 c).before (0 : Fin 4) t₀ d = xIn m ρ c := by unfold Dat.before; rw [if_pos (fetch_0 t₀)]; rfl
theorem before_1 (d) : (dats m ρ 0 c).before (1 : Fin 4) t₀ d = w1In m ρ c := by unfold Dat.before; rw [if_pos (fetch_1 t₀)]; rfl
theorem before_2 (d) : (dats m ρ 0 c).before (2 : Fin 4) t₀ d = w2In m ρ c := by unfold Dat.before; rw [if_pos (fetch_2 t₀)]; rfl

/-- What the pipeline hands the body is what the body takes. -/
theorem begin_intro (K : Dev nD × Cell → ℕ) :
    iprop((own c ∗ credits c ∗ Scratch (F := F) c) ∗ (dats m ρ 0 c).owesAt () t₀.castSucc
    ∗ stg c cc0_stg0_0 (xIn m ρ c) ∗ stg c cc0_stg1_0 (w1In m ρ c) ∗ stg c cc0_stg2_0 (w2In m ρ c)
    ∗ (∃ d, stg c cc0_stg3_0 ((dats m ρ 0 c).before (3 : Fin 4) t₀ d))) ⊢ Begin m ρ c := by
  unfold Begin Ins Dat.owesAt Pipeline.owesWithin
  iintro ⟨⟨Ho, Hc, Hs⟩, ⟨%W, -, HO⟩, Hx, Hw1, Hw2, ⟨%d, %f, -, Hout⟩⟩
  ihave HG := (greet_fresh (F := F) c) $$ [Ho Hc]
  · isplitl [Ho] <;> iassumption
  icases HG with ⟨HG, HF⟩
  ihave Hs := (scratch_open (F := F) c) $$ Hs
  icases Hs with ⟨HD, HS, Hh⟩
  isplitl [HO]; · iexists W; iexact HO
  isplitl [HG]; · iexact HG
  isplitl [HF]; · iexact HF
  isplitl [HD]; · iexact HD
  isplitl [HS]; · iexact HS
  isplitl [Hx Hw1 Hw2]
  · isplitl [Hx]; · iapply (stg_owns c cc0_stg0_0 (xIn m ρ c)); iexact Hx
    isplitl [Hw1]; · iapply (stg_owns c cc0_stg1_0 (w1In m ρ c)); iexact Hw1
    iapply (stg_owns c cc0_stg2_0 (w2In m ρ c)); iexact Hw2
  isplitl [Hout]
  · unfold anyAt
    iexists f
    simp only [Memref.view_whole, View.set_whole]
    iexact Hout
  iexact Hh

theorem used_zeros : iprop(semVal (barCell c) 0 ∗ bigSep Finset.univ fun ℓ => Used (F := F) c ℓ)
    ⊢ iprop(unscopedSems0 c ∗ Pipeline.ownSems0 (Ix := Unit) (Name := ℕ) (U := UU) (Lvl := ℕ) (Val := Elt F) (τ := τ) lsem c
      ∗ bigSep Finset.univ fun ℓ => dstAny (F := F) c ℓ) := by
  unfold Used Pipeline.ownSems0
  rw [unscoped_eq, by_side]
  simp only [bigSep_sep']
  iintro ⟨HB, Hs, Hr, Hd⟩
  isplitl [HB]; · iexact HB
  isplitr [Hd]
  · isplitl [Hs]; · iexact Hs
    iexact Hr
  iexact Hd

/-- What the body leaves is what the pipeline takes back. -/
theorem finish_elim : Finish m ρ c ⊢ bodyPost m ρ c := by
  unfold Finish Ins bodyPost Φ₁ debt Dat.owesAt Pipeline.owesWithin
  rw [owed_end]
  iintro ⟨⟨%W, HO⟩, HB, HU, HS, ⟨Hx, Hw1, Hw2⟩, Hout, Hh⟩
  ihave HZ := (used_zeros (F := F) c) $$ [HB HU]
  · isplitl [HB] <;> iassumption
  icases HZ with ⟨HZ1, HZ2, HD⟩
  ihave Hsc := (scratch_close (F := F) c) $$ [HD HS Hh]
  · isplitl [HD]; · iexact HD
    isplitl [HS] <;> iassumption
  isplitl [HZ1 HZ2 Hsc]
  · isplitl [HZ1]; · iexact HZ1
    isplitl [HZ2] <;> iassumption
  isplitl [HO]
  · iexists W
    isplitr; · ipureintro; exact fun _ _ => Or.inl trivial
    iexact HO
  isplitl [Hx]; · iapply (Entails.of_eq (owns_stg c cc0_stg0_0 (xIn m ρ c))); iexact Hx
  isplitl [Hw1]; · iapply (Entails.of_eq (owns_stg c cc0_stg1_0 (w1In m ρ c))); iexact Hw1
  isplitl [Hw2]; · iapply (Entails.of_eq (owns_stg c cc0_stg2_0 (w2In m ρ c))); iexact Hw2
  iapply (Entails.of_eq (owns_stg c cc0_stg3_0 (res m ρ c))); iexact Hout

/-- The body asks which device it runs on. -/
theorem runs_deviceId (Q : PUnit → sProp 𝕄) : runs c (body (F := F)) Q = runs c (bodyAt (F := F) c) Q := by
  unfold runs body
  simp only [Prog.lift, Prog.bind_op, Prog.bind_ret, wp_deviceId]

/-- The body, from what the pipeline hands it to what it takes back. -/
theorem runs_body : bodyPre m ρ c ⊢ runs c (body (F := F)) (fun _ => bodyPost m ρ c) := by
  rw [runs_deviceId]
  unfold bodyPre Φ₀ start
  simp only [before_0, before_1, before_2]
  iintro ⟨⟨⟨⟨%K, #HK, Ho⟩, Hc⟩, Hs⟩, HO, ⟨%d0, Hx⟩, ⟨%d1, Hw1⟩, ⟨%d2, Hw2⟩, Hout⟩
  iapply (runs_last (runs_bodyAt m ρ K c)) $$ [Ho Hc Hs HO Hx Hw1 Hw2 Hout]
  · isplitr; · iexact HK
    iapply (begin_intro m ρ c K)
    isplitl [Ho Hc Hs]
    · isplitl [Ho]; · iexact Ho
      isplitl [Hc] <;> iassumption
    isplitl [HO]; · iexact HO
    isplitl [Hx]; · iexact Hx
    isplitl [Hw1]; · iexact Hw1
    isplitl [Hw2] <;> iassumption
  · iintro %_ H
    iapply (finish_elim m ρ c) $$ H

/-- The printed body on the launch's buffers. -/
abbrev printed : P F PUnit :=
  cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _)
    (Memref.whole cc0_scratch1) (Memref.isWhole_whole _) (Memref.whole cc0_scratch2) (Memref.isWhole_whole _)
    (Memref.whole cc0_scratch3) (Memref.isWhole_whole _) (Memref.whole cc0_scratch4) (Memref.isWhole_whole _)
    (Memref.whole cc0_scratch5) (Memref.isWhole_whole _) (Memref.whole cc0_scratch6) (Memref.isWhole_whole _)
    (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16

set_option maxRecDepth 100000 in
/-- The launch calls the body on these buffers. -/
theorem printed_eq : (defs₀ (F := F)) Proc.tc 0 (t₀, cfg0.slots t₀) = printed (F := F) := rfl

set_option maxRecDepth 100000 in
/-- The body meets what the pipeline asks of it. -/
theorem body_obligation : BodyObligation (dats (F := F) m ρ 0 c) (defs₀ (F := F)) 𝒱₀ () Set.univ := fun t => by
  rw [fin_N t]
  rw [bigSep_W0, bigSep_W0]
  simp only [owns_whole_eq]
  change bodyPre m ρ c ⊢ _
  have h := runs_body m ρ c
  rw [show body (F := F) = (defs₀ (F := F)) Proc.tc 0 (t₀, cfg0.slots t₀) from (printed_eq.trans body_eq).symm] at h
  exact h

/-! ## The side conditions of the launch -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  unfold start G'
  iintro ⟨-, #Hlev, Hcr, -, ⟨%K, #HR, Ho⟩⟩
  ihave Hc := (launch_credits (F := F) c) $$ Hcr
  imodintro
  isplitl
  · isplitl [Ho]
    · iexists K
      isplitr
      · unfold known
        unfold records
        isplitr; · iexact HR
        iexact Hlev
      · iexact Ho
    · iexact Hc
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ Scratch
  iintro ⟨Hs, -, Hr⟩
  isplitl [Hs] <;> iassumption

theorem phi1_exit :
    (dats m ρ 0 c).Φ (Fin.last cfg0.N) ⊢ iprop(unscopedSems0 c ∗ Pipeline.ownSems0 lsem c ∗ Pipeline.scopedRest cfg0.spec c) := by
  rw [show (dats m ρ 0 c).Φ (Fin.last cfg0.N) = Φ₁ c from rfl]
  unfold Φ₁ Scratch
  iintro H
  iexact H

theorem waits : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Every window's array at its final contents. -/
def Final : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 100000 in
/-- Every weakly fair execution of the four kernels ends, with every window's array at its final contents and every
    semaphore at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ lsem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (mint m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs are as they were. -/
theorem kept {r : PUnit × MemSt nD τ sig (Elt F)} (h : Final m ρ r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(h c 0).trans ((dats (F := F) m ρ 0 c).arrAt_in (0 : Fin 4) rfl _), (h c 1).trans ((dats (F := F) m ρ 0 c).arrAt_in (1 : Fin 4) rfl _),
    (h c 2).trans ((dats (F := F) m ρ 0 c).arrAt_in (2 : Fin 4) rfl _)⟩

end Cert.KernelIdeal.Ring

end

end
-- ==== Proof.Value.lean ====
/- What the messages and the result hold, as sums, when every number is exact. -/
module

public import proofs.«01_k».proof.Proof.Blocks
public import Idealize.ShloMosaic.Lib.MatmulPlain

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

open scoped BigOperators

variable (mi : (ℓ : Loc nD τ sig) → Buf (Elt Ideal) ℓ)

/-! ## The four products -/

/-- The part of entry `(R, n)` of the hidden matrix that device `c` computes: its columns of `x` times its rows of the first
    weight matrix. -/
def part (R : Fin 2048) (n : Fin 512) : EReal :=
  ∑ k : Fin 512, (xIn mi ρ c (ix2 R k) : EReal) * w1In mi ρ c (ix2 k n)

theorem pay10_apply (w : Vec Ideal S512x512 .bf16) (v : Vec Ideal S64x512 .bf16) (a : Fin 64) (b : Fin 512) :
    k0_pay10 (k0_pay1 w) v (ix2 a b) = ∑ k : Fin 512, (v (ix2 a k) : EReal) * w (ix2 k b) := by
  have h := Ideal.matmul_plain_apply (M := 64) (K := 512) (N := 512) (φ₁ := .bf16) (φ₂ := .bf16) none v w (constant S64x512 .f32 0x00000000#32) a b
  unfold k0_pay10 k0_pay1
  simp only [shapeCast_self]
  refine Eq.trans h ?_
  refine Eq.trans (congrArg (· + _) ?_) (zero_add _)
  exact Ideal.ofBits_zero_f32

theorem prod_apply (R : Fin 2048) (n : Fin 512) : prod mi ρ c (ix2 R n) = part ρ c mi R n := by
  have h := Ideal.matmul_plain_apply (M := 2048) (K := 512) (N := 512) (φ₁ := .bf16) (φ₂ := .bf16) none (xIn mi ρ c) (w1In mi ρ c)
    (constant S2048x512 .f32 0x00000000#32) R n
  unfold prod k0_pay12 k0_pay1
  simp only [shapeCast_self]
  refine Eq.trans h ?_
  refine Eq.trans (congrArg (· + _) ?_) (zero_add _)
  exact Ideal.ofBits_zero_f32

theorem pay43_apply (w : Vec Ideal S512x512 .bf16) (v : Vec Ideal S4x64x512 .bf16) (a : Fin 256) (b : Fin 512) :
    k0_pay43 (k0_pay41 w) v (ix2 a b)
      = ∑ k : Fin 512, (v (ix3 ⟨a.val / 64, by omega⟩ ⟨a.val % 64, by omega⟩ k) : EReal) * w (ix2 k b) := by
  have h := Ideal.matmul_plain_apply (M := 256) (K := 512) (N := 512) (φ₁ := .bf16) (φ₂ := .bf16) none
    (shapeCast S256x512 v shapeCasts_S4x64x512_S256x512) w (constant S256x512 .f32 0x00000000#32) a b
  unfold k0_pay43 k0_pay41
  simp only [shapeCast_self]
  refine Eq.trans h ?_
  refine Eq.trans (congrArg (· + _) Ideal.ofBits_zero_f32) ?_
  rw [zero_add]
  refine Finset.sum_congr rfl fun k _ => ?_
  refine congrArg (fun y : EReal => y * w (ix2 k b)) ?_
  refine shapeCast_apply v _ _ _ ?_
  rw [Shape.rowMajor_val_three, Shape.rowMajor_val_two]
  show (a.val / 64 * 64 + a.val % 64) * 512 + k.val = a.val * 512 + k.val
  omega

theorem pay44_apply (w : Vec Ideal S512x512 .bf16) (v : Vec Ideal S1x4x64x512 .bf16) (a : Fin 256) (b : Fin 512) :
    k0_pay44 (k0_pay41 w) v (ix2 a b)
      = ∑ k : Fin 512, (v (ix4 0 ⟨a.val / 64, by omega⟩ ⟨a.val % 64, by omega⟩ k) : EReal) * w (ix2 k b) := by
  have h := pay43_apply w (shapeCast S4x64x512 v shapeCasts_S1x4x64x512_S4x64x512) a b
  refine Eq.trans h (Finset.sum_congr rfl fun k _ => ?_)
  refine congrArg (fun y : EReal => y * w (ix2 k b)) ?_
  refine shapeCast_apply v _ _ _ ?_
  rw [Shape.rowMajor_val_four, Shape.rowMajor_val_three]
  show ((0 * 4 + a.val / 64) * 64 + a.val % 64) * 512 + k.val = (a.val / 64 * 64 + a.val % 64) * 512 + k.val
  omega

/-! ## Going round the ring -/

omit [FloatOps F] in
theorem origin_iterate_val (d : Fin 2) (s : ℕ) :
    (((fun e : Dev nD => origin e d)^[s] c : Dev nD)).val = (c.val + (if d = 0 then 3 else 1) * s) % 4 := by
  induction s generalizing c with
  | zero => have hc : c.val < 4 := c.isLt; simp; omega
  | succ s ih =>
    rw [Function.iterate_succ_apply, ih]
    fin_cases d
    · have h : (origin c 0).val = (c.val + 3) % 4 := toward_one_val c
      simp only [Fin.zero_eta, if_true, h]; omega
    · have h : (origin c 1).val = (c.val + 1) % 4 := toward_zero_val c
      simp only [Fin.mk_one, h]; norm_num; omega

omit [FloatOps F] in
/-- Four steps meet every device once. -/
theorem sum_round (d : Fin 2) (f : Dev nD → EReal) :
    ∑ s ∈ Finset.range 4, f ((fun e : Dev nD => origin e d)^[s] c) = ∑ e : Dev nD, f e := by
  rw [Finset.sum_range]
  refine Function.Bijective.sum_comp (e := fun s : Fin 4 => (fun e : Dev nD => origin e d)^[s.val] c) ?_ f
  refine (Fintype.bijective_iff_injective_and_card _).mpr ⟨fun s s' h => ?_, rfl⟩
  have h' := congrArg Fin.val h
  simp only [origin_iterate_val] at h'
  apply Fin.ext
  have hs := s.isLt
  have hs' := s'.isLt
  split at h' <;> omega

omit [FloatOps F] in
/-- The rows of the next link are the rows the device before sends by this one. -/
theorem base_origin (r : ℕ) (h : r + 1 < 4) (d : Fin 2) :
    base (origin c d) ⟨r, by omega⟩ d = base c ⟨r + 1, h⟩ d := by
  have hc : c.val < 4 := c.isLt
  unfold base
  fin_cases d
  · have h : (origin c 0).val = (c.val + 3) % 4 := toward_one_val c
    simp only [Fin.zero_eta, if_true, h]; omega
  · have h : (origin c 1).val = (c.val + 1) % 4 := toward_zero_val c
    simp only [Fin.mk_one, h]; norm_num; omega

omit [FloatOps F] in
theorem base_le (r : Fin 4) (d : Fin 2) : base c r d + 256 ≤ 2048 := by
  unfold base; split <;> omega

omit [FloatOps F] in
theorem rowOff_eq (s : Fin 3) (j : Fin 4) (d : Fin 2) : rowOff c s j d = ![base c ⟨s.val, by omega⟩ d + 64 * j.val, 0] := by
  have hc : c.val < 4 := c.isLt
  fin_cases d
  · show k0_off1 c _ _ = _
    rw [k0_off1_eq]
    unfold base; simp
  · show k0_off2 c _ _ = _
    rw [k0_off2_eq]
    unfold base; simp; omega

omit [FloatOps F] in
theorem ownOff_eq (j : Fin 4) (d : Fin 2) : ownOff c j d = ![base c 3 d + 64 * j.val, 0] := by
  have hc : c.val < 4 := c.isLt
  fin_cases d
  · show k0_off3 c _ = _
    rw [k0_off3_eq]
    unfold base; simp; omega
  · show k0_off4 c _ = _
    rw [k0_off4_eq]
    unfold base; simp; omega

/-- Row `a` of the sixty-four of `(r, j, d)`. -/
def at' (r : Fin 4) (j : Fin 4) (d : Fin 2) (a : Fin 64) : Fin 2048 :=
  ⟨base c r d + 64 * j.val + a.val, by have := base_le c r d; omega⟩

theorem rows_apply (v : Vec F S2048x512 .bf16) (r : Fin 4) (j : Fin 4) (d : Fin 2) (off : Fin 2 → Nat)
    (inb : ∀ a, off a + S64x512.size a ≤ S2048x512.size a) (h : off = ![base c r d + 64 * j.val, 0]) (a : Fin 64) (b : Fin 512) :
    rows v off inb (ix2 a b) = v (ix2 (at' c r j d a) b) := by
  subst h
  unfold rows
  congr 1
  funext i
  apply Fin.ext
  match i with
  | ⟨0, _⟩ => show base c r d + 64 * j.val + 1 * a.val = _; rw [Nat.one_mul]; rfl
  | ⟨1, _⟩ => show 0 + 1 * b.val = b.val; omega

/-! ## The messages -/

/-- After `r` hops a message is the sum of the parts of `r + 1` devices. -/
theorem msgs_sum (r : ℕ) (h : r < 4) (j : Fin 4) (d : Fin 2) (a : Fin 64) (b : Fin 512) :
    msgs mi ρ r c j d (ix2 a b)
      = ∑ s ∈ Finset.range (r + 1), part ρ ((fun e : Dev nD => origin e d)^[s] c) mi (at' c ⟨r, h⟩ j d a) b := by
  induction r generalizing c with
  | zero =>
    rw [Finset.sum_range_one]
    show k0_pay10 (k0_pay1 (w1In mi ρ c)) (rows (xIn mi ρ c) (rowOff c 0 j d) (rowOff_inb c 0 j d)) (ix2 a b) = part ρ c mi _ b
    rw [pay10_apply]
    unfold part
    refine Finset.sum_congr rfl fun k _ => ?_
    rw [rows_apply c _ 0 j d _ _ (rowOff_eq c 0 j d)]
    rfl
  | succ r ih =>
    have hstep : msgs mi ρ (r + 1) c j d (ix2 a b)
        = (part ρ c mi (at' c ⟨r + 1, h⟩ j d a) b : EReal) + msgs mi ρ r (origin c d) j d (ix2 a b) := by
      by_cases h3 : r + 1 < 3
      · have e : msgs mi ρ (r + 1) c j d
            = addf (rows (prod mi ρ c) (rowOff c ⟨r + 1, h3⟩ j d) (rowOff_inb c ⟨r + 1, h3⟩ j d)) (msgs mi ρ r (origin c d) j d) := dif_pos h3
        rw [e]
        show (rows (prod mi ρ c) _ _ (ix2 a b) : EReal) + _ = _
        rw [rows_apply c _ ⟨r + 1, h⟩ j d _ _ (rowOff_eq c ⟨r + 1, h3⟩ j d), prod_apply]
      · have h4 : r + 1 = 3 := by omega
        have e : msgs mi ρ (r + 1) c j d
            = addf (rows (prod mi ρ c) (ownOff c j d) (ownOff_inb c j d)) (msgs mi ρ r (origin c d) j d) := (dif_neg h3).trans (if_pos h4)
        rw [e]
        show (rows (prod mi ρ c) _ _ (ix2 a b) : EReal) + _ = _
        have hr : (⟨r + 1, h⟩ : Fin 4) = 3 := Fin.ext h4
        rw [hr, rows_apply c _ 3 j d _ _ (ownOff_eq c j d), prod_apply]
    rw [hstep, ih (origin c d) (by omega), Finset.sum_range_succ' _ (r + 1), add_comm]
    refine congrArg₂ (fun y z : EReal => y + z) (Finset.sum_congr rfl fun s _ => ?_) rfl
    have hr : at' (origin c d) ⟨r, by omega⟩ j d a = at' c ⟨r + 1, h⟩ j d a := by
      apply Fin.ext
      show base (origin c d) ⟨r, _⟩ d + 64 * j.val + a.val = base c ⟨r + 1, h⟩ d + 64 * j.val + a.val
      rw [base_origin]
    rw [Function.iterate_succ_apply, hr]

/-- The hidden matrix: the parts of all devices together. -/
def hid (R : Fin 2048) (n : Fin 512) : EReal := ∑ e : Dev nD, part ρ e mi R n

theorem msgs_three (j : Fin 4) (d : Fin 2) (a : Fin 64) (b : Fin 512) :
    msgs mi ρ 3 c j d (ix2 a b) = hid ρ mi (at' c 3 j d a) b := by
  rw [msgs_sum ρ c mi 3 (by decide)]
  exact sum_round c d fun e => part ρ e mi (at' c 3 j d a) b

/-- What arrives in row `3 + t` is finished rows of the hidden matrix. -/
theorem got_hi (t : Fin 3) (j : Fin 4) (d : Fin 2) (a : Fin 64) (b : Fin 512) :
    got mi ρ c (hi t j d) (ix2 a b) = hid ρ mi (at' c ⟨t.val, by omega⟩ j d a) b := by
  have hc : c.val < 4 := c.isLt
  have key : ∀ s : ℕ, s < 3 → ∀ e : Dev nD, msgs mi ρ (s + 3) e j d = msgs mi ρ 3 ((fun e : Dev nD => origin e d)^[s] e) j d := by
    intro s hs
    induction s with
    | zero => intro e; rfl
    | succ s ih =>
      intro e
      rw [Function.iterate_succ_apply, ← ih (by omega)]
      exact (dif_neg (show ¬(s + 3) + 1 < 3 by omega)).trans (if_neg (show ¬(s + 3) + 1 = 3 by omega))
  show msgs mi ρ (t.val + 3) (origin c d) j d (ix2 a b) = _
  rw [key t.val t.isLt, msgs_three, ← Function.iterate_succ_apply (f := fun e : Dev nD => origin e d)]
  congr 1
  apply Fin.ext
  show base _ 3 d + 64 * j.val + a.val = base c ⟨t.val, _⟩ d + 64 * j.val + a.val
  congr 2
  have ho := origin_iterate_val c d (t.val + 1)
  unfold base
  rw [ho]
  fin_cases d
  · simp only [Fin.zero_eta, if_true]; simp; omega
  · simp; omega

theorem own_three (j : Fin 4) (d : Fin 2) (a : Fin 64) (b : Fin 512) :
    msg mi ρ c (3, j, d) (ix2 a b) = hid ρ mi (at' c 3 j d a) b := msgs_three ρ c mi j d a b

/-! ## The result -/

theorem block_apply (r : Fin 4) (d : Fin 2) (a : Fin 256) (b : Fin 512) :
    blockOf mi ρ c r d (ix2 a b)
      = ∑ k : Fin 512, hid ρ mi ⟨base c r d + a.val, by have := base_le c r d; omega⟩ k * (w2In mi ρ c (ix2 k b) : EReal) := by
  have ha : ∀ r' : Fin 4, at' c r' ⟨a.val / 64, by omega⟩ d ⟨a.val % 64, by omega⟩ = ⟨base c r' d + a.val, by have := base_le c r' d; omega⟩ := by
    intro r'
    apply Fin.ext
    show base c r' d + 64 * (a.val / 64) + a.val % 64 = base c r' d + a.val
    omega
  by_cases h : r.val < 3
  · have e : blockOf mi ρ c r d = k0_pay44 (k0_pay41 (w2In mi ρ c)) (gathered mi ρ c ⟨r.val, h⟩ d) := dif_pos h
    rw [e, pay44_apply]
    refine Finset.sum_congr rfl fun k _ => ?_
    refine congrArg (fun y : EReal => y * w2In mi ρ c (ix2 k b)) ?_
    show got mi ρ c (hi ⟨r.val, h⟩ ⟨a.val / 64, _⟩ d) (ix2 ⟨a.val % 64, _⟩ k) = _
    rw [got_hi, ha]
  · have e : blockOf mi ρ c r d = k0_pay43 (k0_pay41 (w2In mi ρ c)) (ownRows mi ρ c d) := dif_neg h
    rw [e, pay43_apply]
    have hr : r = 3 := Fin.ext (by have := r.isLt; show r.val = 3; omega)
    subst hr
    refine Finset.sum_congr rfl fun k _ => ?_
    refine congrArg (fun y : EReal => y * w2In mi ρ c (ix2 k b)) ?_
    show msg mi ρ c (3, ⟨a.val / 64, _⟩, d) (ix2 ⟨a.val % 64, _⟩ k) = _
    rw [own_three, ha]

/-- **Entry by entry, the result of device `c` is the hidden matrix times its columns of the second weight matrix.** -/
theorem res_apply (R : Fin 2048) (n : Fin 512) :
    res mi ρ c (ix2 R n) = ∑ k : Fin 512, hid ρ mi R k * (w2In mi ρ c (ix2 k n) : EReal) := by
  show blockOf mi ρ c (rOf c (ix2 R n)) (dOf (ix2 R n)) (ix2 ⟨R.val % 256, _⟩ n) = _
  rw [block_apply]
  have hb := (base_iff c (rOf c (ix2 R n)) (dOf (ix2 R n)) (ix2 R n)).mpr ⟨rfl, rfl⟩
  have hm : base c (rOf c (ix2 R n)) (dOf (ix2 R n)) % 256 = 0 := by unfold base; omega
  have hR : (⟨base c (rOf c (ix2 R n)) (dOf (ix2 R n)) + R.val % 256,
      by have := base_le c (rOf c (ix2 R n)) (dOf (ix2 R n)); omega⟩ : Fin 2048) = R := by
    apply Fin.ext
    obtain ⟨h1, h2⟩ := hb
    change _ ≤ R.val at h1
    change R.val < _ at h2
    show _ + R.val % 256 = R.val
    omega
  exact Finset.sum_congr rfl fun k _ => by rw [hR]

end Cert.KernelIdeal.Ring

end

end
-- ==== Proof.Result.lean ====
/- The result array the run ends with, and its entries in terms of the argument arrays. -/
module

public import proofs.«01_k».proof.Proof.Launch
public import proofs.«01_k».proof.Proof.Value
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cell → ℕ) (c : Dev nD)

open scoped BigOperators

/-! ## The array written back -/

theorem flushed_res (t : Fin cfg0.N) :
    (dats m ρ 0 c).flushed 3 t = ((cfg0.win 3).blk t).view.read (Elt F) (res m ρ c : Buf (Elt F) ((c : Thread nD τ).loc main_v1)) := by
  rw [fin_N t]
  show (cfg0.win 3).cut (grid0.coords t₀) (res m ρ c) = _
  funext i
  show res m ρ c _ = res m ρ c _
  congr 1
  funext a
  apply Fin.ext
  match a with
  | ⟨0, _⟩ => show (i 0).val = 0 * 2048 + 1 * (i 0).val; omega
  | ⟨1, _⟩ => show (i 1).val = 0 * 512 + 1 * (i 1).val; omega

omit [FloatOps F] in
/-- Its one block is the whole array. -/
theorem covered (i : S2048x512.Idx) :
    ∃ t : Fin cfg0.N, (cfg0.win 3).flush t = true ∧ i ∈ ((cfg0.win 3).blk t).view.set := by
  refine ⟨t₀, rfl, ?_⟩
  show i ∈ ((View.whole main_v1).slice (win0_3.rect t₀)).set
  rw [View.set_slice_whole, Rect.mem_set_unit]
  have e : ∀ a, win0_3.index t₀ a * win0_3.size a = 0 ∧ win0_3.xsize (grid0.coords t₀) a = S2048x512.size a := by
    decide +kernel
  intro a
  show win0_3.index t₀ a * win0_3.size a ≤ (i a : Nat) ∧ (i a : Nat) < win0_3.index t₀ a * win0_3.size a + win0_3.xsize (grid0.coords t₀) a
  rw [(e a).1, (e a).2, Nat.zero_add]
  exact ⟨Nat.zero_le _, (i a).isLt⟩

theorem written : (dats m ρ 0 c).arrAt 3 cfg0.N = res m ρ c :=
  (dats m ρ 0 c).arrAt_eq_of_cover 3 (res m ρ c) (fun t _ => flushed_res m ρ c t) covered

/-- The run ends with the result in its array. -/
theorem result {r : PUnit × MemSt nD τ sig (Elt F)} (h : Final m ρ r) : r.2.mem ((c : Thread nD τ).loc main_v1) = res m ρ c :=
  (h c 3).trans (written m ρ c)

/-! ## The arguments -/

theorem xIn_eq : xIn m ρ c = m ((c : Thread nD τ).loc main_arg0) := by
  funext x
  show m ((c : Thread nD τ).loc main_arg0) _ = _
  congr 1
  funext a
  apply Fin.ext
  match a with
  | ⟨0, _⟩ => show 0 * 2048 + 1 * (x 0).val = (x 0).val; omega
  | ⟨1, _⟩ => show 0 * 512 + 1 * (x 1).val = (x 1).val; omega
theorem w1In_eq : w1In m ρ c = m ((c : Thread nD τ).loc main_arg1) := by
  funext x
  show m ((c : Thread nD τ).loc main_arg1) _ = _
  congr 1
  funext a
  apply Fin.ext
  match a with
  | ⟨0, _⟩ => show 0 * 512 + 1 * (x 0).val = (x 0).val; omega
  | ⟨1, _⟩ => show 0 * 512 + 1 * (x 1).val = (x 1).val; omega
theorem w2In_eq : w2In m ρ c = m ((c : Thread nD τ).loc main_arg2) := by
  funext x
  show m ((c : Thread nD τ).loc main_arg2) _ = _
  congr 1
  funext a
  apply Fin.ext
  match a with
  | ⟨0, _⟩ => show 0 * 512 + 1 * (x 0).val = (x 0).val; omega
  | ⟨1, _⟩ => show 0 * 512 + 1 * (x 1).val = (x 1).val; omega

/-! ## The whole matrices -/

variable (mi : (ℓ : Loc nD τ sig) → Buf (Elt Ideal) ℓ)

/-- When each device holds its columns of `X` and its rows of `W₁`, the hidden matrix is their product. -/
theorem hid_eq (X : (⟨2, ![2048, 2048]⟩ : Shape).Idx → EReal) (W₁ : (⟨2, ![2048, 512]⟩ : Shape).Idx → EReal)
    (hX : ∀ e : Dev nD, mi ((e : Thread nD τ).loc main_arg0) = Layout.block ⟨2, ![2048, 512]⟩ ⟨2, ![2048, 2048]⟩ 1 4 e X)
    (hW : ∀ e : Dev nD, mi ((e : Thread nD τ).loc main_arg1) = Layout.block ⟨2, ![512, 512]⟩ ⟨2, ![2048, 512]⟩ 0 4 e W₁)
    (R : Fin 2048) (n : Fin 512) : hid ρ mi R n = ∑ k : Fin 2048, X (ix2 R k) * W₁ (ix2 k n) := by
  have hsum : ∑ k : Fin 2048, X (ix2 R k) * W₁ (ix2 k n)
      = ∑ p : Fin 4 × Fin 512, X (ix2 R (finProdFinEquiv (m := 4) (n := 512) p)) * W₁ (ix2 (finProdFinEquiv (m := 4) (n := 512) p) n) :=
    (Equiv.sum_comp (finProdFinEquiv (m := 4) (n := 512)) fun k : Fin 2048 => X (ix2 R k) * W₁ (ix2 k n)).symm
  rw [hsum, Fintype.sum_prod_type]
  unfold hid
  refine Finset.sum_congr rfl fun e _ => ?_
  unfold part
  refine Finset.sum_congr rfl fun k _ => ?_
  rw [xIn_eq, w1In_eq, hX e, hW e]
  have hk : (finProdFinEquiv (m := 4) (n := 512) (e, k)).val = e.val * 512 + k.val := by
    show k.val + 512 * e.val = _
    omega
  have hx : ∀ h : Layout.Tiles ⟨2, ![2048, 512]⟩ ⟨2, ![2048, 2048]⟩ 1 4,
      h.idx e (ix2 R k) = ix2 R (finProdFinEquiv (m := 4) (n := 512) (e, k)) := fun h => by
    funext a
    apply Fin.ext
    match a with
    | ⟨0, _⟩ => exact (Layout.idx_cols_val h e (ix2 R k)).1
    | ⟨1, _⟩ => exact (Layout.idx_cols_val h e (ix2 R k)).2.trans hk.symm
  have hw : ∀ h : Layout.Tiles ⟨2, ![512, 512]⟩ ⟨2, ![2048, 512]⟩ 0 4,
      h.idx e (ix2 k n) = ix2 (finProdFinEquiv (m := 4) (n := 512) (e, k)) n := fun h => by
    funext a
    apply Fin.ext
    match a with
    | ⟨0, _⟩ => exact (Layout.idx_rows_val h e (ix2 k n)).1.trans hk.symm
    | ⟨1, _⟩ => exact (Layout.idx_rows_val h e (ix2 k n)).2
  rw [Layout.block_apply, Layout.block_apply, hx, hw]

/-- So device `c` ends with its columns of `(X W₁) W₂`. -/
theorem res_eq (X : (⟨2, ![2048, 2048]⟩ : Shape).Idx → EReal) (W₁ : (⟨2, ![2048, 512]⟩ : Shape).Idx → EReal)
    (W₂ : (⟨2, ![512, 2048]⟩ : Shape).Idx → EReal) (Y : (⟨2, ![2048, 2048]⟩ : Shape).Idx → EReal)
    (hX : ∀ e : Dev nD, mi ((e : Thread nD τ).loc main_arg0) = Layout.block ⟨2, ![2048, 512]⟩ ⟨2, ![2048, 2048]⟩ 1 4 e X)
    (hW : ∀ e : Dev nD, mi ((e : Thread nD τ).loc main_arg1) = Layout.block ⟨2, ![512, 512]⟩ ⟨2, ![2048, 512]⟩ 0 4 e W₁)
    (hV : mi ((c : Thread nD τ).loc main_arg2) = Layout.block ⟨2, ![512, 512]⟩ ⟨2, ![512, 2048]⟩ 1 4 c W₂)
    (hY : ∀ (R : Fin 2048) (n : Fin 2048), Y (ix2 R n) = ∑ k : Fin 512, (∑ l : Fin 2048, X (ix2 R l) * W₁ (ix2 l k)) * W₂ (ix2 k n)) :
    res mi ρ c = Layout.block ⟨2, ![2048, 512]⟩ ⟨2, ![2048, 2048]⟩ 1 4 c Y := by
  funext x
  have hx : ∃ (R : Fin 2048) (n : Fin 512), x = ix2 R n := ⟨x 0, x 1, eq_ix2 x⟩
  obtain ⟨R, n, rfl⟩ := hx
  have hc : c.val < 4 := c.isLt
  have hy : ∀ h : Layout.Tiles ⟨2, ![2048, 512]⟩ ⟨2, ![2048, 2048]⟩ 1 4,
      h.idx c (ix2 R n) = ix2 R (⟨c.val * 512 + n.val, by omega⟩ : Fin 2048) := fun h => by
    funext a
    apply Fin.ext
    match a with
    | ⟨0, _⟩ => exact (Layout.idx_cols_val h c (ix2 R n)).1
    | ⟨1, _⟩ => exact (Layout.idx_cols_val h c (ix2 R n)).2
  have hv : ∀ (h : Layout.Tiles ⟨2, ![512, 512]⟩ ⟨2, ![512, 2048]⟩ 1 4) (k : Fin 512),
      h.idx c (ix2 k n) = ix2 k (⟨c.val * 512 + n.val, by omega⟩ : Fin 2048) := fun h k => by
    funext a
    apply Fin.ext
    match a with
    | ⟨0, _⟩ => exact (Layout.idx_cols_val h c (ix2 k n)).1
    | ⟨1, _⟩ => exact (Layout.idx_cols_val h c (ix2 k n)).2
  rw [res_apply, Layout.block_apply, hy, hY]
  refine Finset.sum_congr rfl fun k _ => ?_
  rw [hid_eq ρ mi X W₁ hX hW, w2In_eq, hV, Layout.block_apply, hv]

end Cert.KernelIdeal.Ring

end

end
-- ==== Proof.Same.lean ====
/- The program and the program read with exact numbers are one text: their bodies, windows and tables agree for any numbers. -/
module

public import proofs.«01_k».proof.Proof.Gen.Kernel
public import proofs.«01_k».proof.Proof.Gen.KernelIdeal

@[expose] public section

set_option maxRecDepth 100000

noncomputable section

namespace Cert.RingClaims

open Idealize.ShloMosaic

variable {F : FTy → Type} [FloatOps F]

/-- The tables of bodies. -/
theorem table_same : Cert.Kernel.defs₀ (F := F) = Cert.KernelIdeal.defs₀ (F := F) := by
  funext p ℓ a
  cases p with
  | tc =>
    fin_cases ℓ
    obtain ⟨t, s⟩ := a
    rfl
  | scScalar _ => rfl
  | scVector _ _ => rfl

/-- The tables with the pipeline's own bodies. -/
theorem defs_same : Cert.Kernel.defs (F := F) = Cert.KernelIdeal.defs (F := F) := by
  show Pipeline.defs Cert.Kernel.pcfgs Cert.Kernel.defs₀ = _
  rw [table_same]
  rfl

theorem main_same : Cert.Kernel.main (F := F) = Cert.KernelIdeal.main (F := F) := rfl

end Cert.RingClaims

end
-- ==== Proof.Claims.lean ====
/- The five claims, from the run of the kernel and the run of the reference. -/
module

public import proofs.«01_k».proof.Defs
public import proofs.«01_k».proof.Proof.Result
public import proofs.«01_k».proof.Proof.Same
public import proofs.«01_k».proof.Proof.Gen.ReferenceIdeal.Run
public import Idealize.ShloMosaic.Lib.StackMember

@[expose] public section

noncomputable section

namespace Cert.RingClaims

open Idealize.ShloMosaic Idealize.ShloMosaic.TcCoe Idealize.SL.Sem Idealize.ShloMosaic.ValueIdx Idealize.ShloMosaic.StackMember
open Cert.KernelIdeal.Ring (run_main kept result res_eq)
open scoped BigOperators

/-! ## Every run ends, the inputs kept, the semaphores at zero -/

/-- The program whose numbers are exact. -/
theorem frame_pi : Cert.quiescent_KernelIdeal := fun m ρ _ =>
  (θ_run (Cert.KernelIdeal.defs (F := Ideal)) _ _).mono (fun _ h => ⟨fun c => kept m ρ c h.1, h.2⟩) (run_main (F := Ideal) m ρ)

/-- The program itself, whose numbers are bits: its text is the same. -/
theorem frame_p : Cert.quiescent_Kernel := by
  intro m ρ _
  rw [defs_same, main_same]
  exact (θ_run (Cert.KernelIdeal.defs (F := Bits)) _ _).mono (fun _ h => ⟨fun c => kept (F := Bits) m ρ c h.1, h.2⟩) (run_main (F := Bits) m ρ)

/-- The reference: it has no semaphore. -/
theorem frame_ri : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-! ## The values -/

/-- Entry by entry, what the reference computes. -/
theorem reference_apply (X : FVec Ideal ⟨2, ![2048, 2048]⟩ .bf16) (W₁ : FVec Ideal ⟨2, ![2048, 512]⟩ .bf16)
    (W₂ : FVec Ideal ⟨2, ![512, 2048]⟩ .bf16) (R n : Fin 2048) :
    (Host.dotGeneral (DotDims.plain 2048 512 2048) none
        (Host.dotGeneral (φ₁ := .bf16) (φ₂ := .bf16) (DotDims.plain 2048 2048 512) none X W₁ : FVec Ideal ⟨2, ![2048, 512]⟩ .bf16) W₂ (ix2 R n) : EReal)
      = ∑ k : Fin 512, (∑ l : Fin 2048, (X (ix2 R l) : EReal) * W₁ (ix2 l k)) * W₂ (ix2 k n) := by
  rw [dotGeneral_plain_apply]
  refine Finset.sum_congr rfl fun k _ => ?_
  exact congrArg (fun y : EReal => y * W₂ (ix2 k n)) (dotGeneral_plain_apply none X W₁ R k)

/-- The devices' results are the columns of the reference's. -/
theorem algebraic : Cert.algebraic_KernelIdeal_ReferenceIdeal := by
  intro m ρ m' ρ' _ hm
  refine ⟨_, (θ_run (Cert.KernelIdeal.defs (F := Ideal)) _ _).mono (fun r h c => ⟨(result m ρ c h.1).trans ?_, kept m ρ c h.1⟩)
      (run_main (F := Ideal) m ρ),
    (θ_run (Cert.ReferenceIdeal.defs (F := Ideal)) _ _).mono (fun r h => h 0) (Cert.ReferenceIdeal.Value.run (F := Ideal) m' ρ')⟩
  exact res_eq ρ c m _ _ _ _ (fun e => (hm e).1) (fun e => (hm e).2.1) (hm c).2.2 (reference_apply _ _ _)

end Cert.RingClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.RingClaims.frame_p, Cert.RingClaims.frame_pi, Cert.RingClaims.frame_ri, trivial, Cert.RingClaims.algebraic⟩

end Cert.Proof

end
